-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S2x4096x1024 : Shape := ⟨3, ![2, 4096, 1024]⟩
abbrev S2x1024 : Shape := ⟨2, ![2, 1024]⟩
abbrev S2048 : Shape := ⟨1, ![2048]⟩
abbrev S1024 : Shape := ⟨1, ![1024]⟩
abbrev S2048x1024 : Shape := ⟨2, ![2048, 1024]⟩
abbrev S1024x1024 : Shape := ⟨2, ![1024, 1024]⟩
abbrev S1024x16 : Shape := ⟨2, ![1024, 16]⟩
abbrev S16 : Shape := ⟨1, ![16]⟩
abbrev S1024x64 : Shape := ⟨2, ![1024, 64]⟩
abbrev S64 : Shape := ⟨1, ![64]⟩
abbrev S_ : Shape := ⟨0, ![]⟩

class Facts : Prop where
  bcast_S_S2048 : S_.BroadcastsInDim S2048 (![] : Fin 0 → Fin S2048.rank)
  bcast_S_S1024 : S_.BroadcastsInDim S1024 (![] : Fin 0 → Fin S1024.rank)
  bcast_S_S1024x16 : S_.BroadcastsInDim S1024x16 (![] : Fin 0 → Fin S1024x16.rank)
  bcast_S_S16 : S_.BroadcastsInDim S16 (![] : Fin 0 → Fin S16.rank)
  bcast_S_S2x1024 : S_.BroadcastsInDim S2x1024 (![] : Fin 0 → Fin S2x1024.rank)
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S1024x64 : S_.BroadcastsInDim S1024x64 (![] : Fin 0 → Fin S1024x64.rank)
  bcast_S_S64 : S_.BroadcastsInDim S64 (![] : Fin 0 → Fin S64.rank)

variable [Facts]

def fn_part2 {F : FTy → Type} [FloatOps F] (main_arg17 : FVec F S1024x1024 .f32) (main_v1 : IVec S2048 1) (main_v3 : IVec S2048 1) (main_v5 : IVec S1024 1) (main_v7 : IVec S1024 1) (main_v9 : IVec S1024x16 1) (main_v11 : IVec S16 1) (main_v13 : IVec S1024 1) (main_v16 : IVec S2x1024 1) (main_v19 : IVec S1024 1) (main_v22 : IVec S2048x1024 1) (main_v25 : IVec S1024x1024 1) (main_v28 : IVec S1024x64 1) (main_v31 : IVec S1024x64 1) (main_v32 : FVec F S64 .f32) (main_v33 : FVec F S64 .f32) : IVec S2048 1 × IVec S2048 1 × IVec S1024 1 × IVec S1024 1 × IVec S1024x16 1 × IVec S16 1 × IVec S1024 1 × IVec S2x1024 1 × IVec S1024 1 × IVec S2048x1024 1 × IVec S1024x1024 1 × IVec S1024x64 1 × IVec S1024x64 1 × IVec S64 1 × IVec S1024x1024 1 :=
  let main_v34 : IVec S64 1 := cmpf .olt main_v32 main_v33
  let main_v35 : FVec F S1024x1024 .f32 := Host.absf main_arg17
  let main_cst_13 : FVec F S_ .f32 := constant S_ .f32 0x7F800000#32
  let main_v36 : FVec F S1024x1024 .f32 := broadcastInDim S1024x1024 ![] bcast_S_S1024x1024 main_cst_13
  let main_v37 : IVec S1024x1024 1 := cmpf .olt main_v35 main_v36
  (main_v1, main_v3, main_v5, main_v7, main_v9, main_v11, main_v13, main_v16, main_v19, main_v22, main_v25, main_v28, main_v31, main_v34, main_v37)

def fn_part1 {F : FTy → Type} [FloatOps F] (main_arg5 : FVec F S1024 .f32) (main_arg7 : FVec F S2048x1024 .f32) (main_arg9 : FVec F S1024x1024 .f32) (main_arg13 : FVec F S1024x64 .f32) (main_arg15 : FVec F S1024x64 .f32) (main_arg16 : FVec F S64 .f32) (main_arg17 : FVec F S1024x1024 .f32) (main_v1 : IVec S2048 1) (main_v3 : IVec S2048 1) (main_v5 : IVec S1024 1) (main_v7 : IVec S1024 1) (main_v9 : IVec S1024x16 1) (main_v11 : IVec S16 1) (main_v13 : IVec S1024 1) (main_v14 : FVec F S2x1024 .f32) (main_v15 : FVec F S2x1024 .f32) : IVec S2048 1 × IVec S2048 1 × IVec S1024 1 × IVec S1024 1 × IVec S1024x16 1 × IVec S16 1 × IVec S1024 1 × IVec S2x1024 1 × IVec S1024 1 × IVec S2048x1024 1 × IVec S1024x1024 1 × IVec S1024x64 1 × IVec S1024x64 1 × IVec S64 1 × IVec S1024x1024 1 :=
  let main_v16 : IVec S2x1024 1 := cmpf .olt main_v14 main_v15
  let main_v17 : FVec F S1024 .f32 := Host.absf main_arg5
  let main_cst_7 : FVec F S_ .f32 := constant S_ .f32 0x7F800000#32
  let main_v18 : FVec F S1024 .f32 := broadcastInDim S1024 ![] bcast_S_S1024 main_cst_7
  let main_v19 : IVec S1024 1 := cmpf .olt main_v17 main_v18
  let main_v20 : FVec F S2048x1024 .f32 := Host.absf main_arg7
  let main_cst_8 : FVec F S_ .f32 := constant S_ .f32 0x7F800000#32
  let main_v21 : FVec F S2048x1024 .f32 := broadcastInDim S2048x1024 ![] bcast_S_S2048x1024 main_cst_8
  let main_v22 : IVec S2048x1024 1 := cmpf .olt main_v20 main_v21
  let main_v23 : FVec F S1024x1024 .f32 := Host.absf main_arg9
  let main_cst_9 : FVec F S_ .f32 := constant S_ .f32 0x7F800000#32
  let main_v24 : FVec F S1024x1024 .f32 := broadcastInDim S1024x1024 ![] bcast_S_S1024x1024 main_cst_9
  let main_v25 : IVec S1024x1024 1 := cmpf .olt main_v23 main_v24
  let main_v26 : FVec F S1024x64 .f32 := Host.absf main_arg13
  let main_cst_10 : FVec F S_ .f32 := constant S_ .f32 0x7F800000#32
  let main_v27 : FVec F S1024x64 .f32 := broadcastInDim S1024x64 ![] bcast_S_S1024x64 main_cst_10
  let main_v28 : IVec S1024x64 1 := cmpf .olt main_v26 main_v27
  let main_v29 : FVec F S1024x64 .f32 := Host.absf main_arg15
  let main_cst_11 : FVec F S_ .f32 := constant S_ .f32 0x7F800000#32
  let main_v30 : FVec F S1024x64 .f32 := broadcastInDim S1024x64 ![] bcast_S_S1024x64 main_cst_11
  let main_v31 : IVec S1024x64 1 := cmpf .olt main_v29 main_v30
  let main_v32 : FVec F S64 .f32 := Host.absf main_arg16
  let main_cst_12 : FVec F S_ .f32 := constant S_ .f32 0x7F800000#32
  let main_v33 : FVec F S64 .f32 := broadcastInDim S64 ![] bcast_S_S64 main_cst_12
  fn_part2 (F := F) main_arg17 main_v1 main_v3 main_v5 main_v7 main_v9 main_v11 main_v13 main_v16 main_v19 main_v22 main_v25 main_v28 main_v31 main_v32 main_v33

def fn {F : FTy → Type} [FloatOps F] (main_arg0 : FVec F S2x4096x1024 .f32) (main_arg1 : FVec F S2x4096x1024 .f32) (main_arg2 : FVec F S2x1024 .f32) (main_arg3 : FVec F S2048 .f32) (main_arg4 : FVec F S2048 .f32) (main_arg5 : FVec F S1024 .f32) (main_arg6 : FVec F S1024 .f32) (main_arg7 : FVec F S2048x1024 .f32) (main_arg8 : FVec F S1024 .f32) (main_arg9 : FVec F S1024x1024 .f32) (main_arg10 : FVec F S1024 .f32) (main_arg11 : FVec F S1024x16 .f32) (main_arg12 : FVec F S16 .f32) (main_arg13 : FVec F S1024x64 .f32) (main_arg14 : FVec F S64 .f32) (main_arg15 : FVec F S1024x64 .f32) (main_arg16 : FVec F S64 .f32) (main_arg17 : FVec F S1024x1024 .f32) (main_arg18 : FVec F S1024 .f32) : IVec S2048 1 × IVec S2048 1 × IVec S1024 1 × IVec S1024 1 × IVec S1024x16 1 × IVec S16 1 × IVec S1024 1 × IVec S2x1024 1 × IVec S1024 1 × IVec S2048x1024 1 × IVec S1024x1024 1 × IVec S1024x64 1 × IVec S1024x64 1 × IVec S64 1 × IVec S1024x1024 1 :=
  let main_cst : FVec F S_ .f32 := constant S_ .f32 0x3F800000#32
  let main_v0 : FVec F S2048 .f32 := broadcastInDim S2048 ![] bcast_S_S2048 main_cst
  let main_v1 : IVec S2048 1 := cmpf .oeq main_arg3 main_v0
  let main_cst_0 : FVec F S_ .f32 := constant S_ .f32 0x00000000#32
  let main_v2 : FVec F S2048 .f32 := broadcastInDim S2048 ![] bcast_S_S2048 main_cst_0
  let main_v3 : IVec S2048 1 := cmpf .oeq main_arg4 main_v2
  let main_cst_1 : FVec F S_ .f32 := constant S_ .f32 0x00000000#32
  let main_v4 : FVec F S1024 .f32 := broadcastInDim S1024 ![] bcast_S_S1024 main_cst_1
  let main_v5 : IVec S1024 1 := cmpf .oeq main_arg8 main_v4
  let main_cst_2 : FVec F S_ .f32 := constant S_ .f32 0x00000000#32
  let main_v6 : FVec F S1024 .f32 := broadcastInDim S1024 ![] bcast_S_S1024 main_cst_2
  let main_v7 : IVec S1024 1 := cmpf .oeq main_arg10 main_v6
  let main_cst_3 : FVec F S_ .f32 := constant S_ .f32 0x00000000#32
  let main_v8 : FVec F S1024x16 .f32 := broadcastInDim S1024x16 ![] bcast_S_S1024x16 main_cst_3
  let main_v9 : IVec S1024x16 1 := cmpf .oeq main_arg11 main_v8
  let main_cst_4 : FVec F S_ .f32 := constant S_ .f32 0x00000000#32
  let main_v10 : FVec F S16 .f32 := broadcastInDim S16 ![] bcast_S_S16 main_cst_4
  let main_v11 : IVec S16 1 := cmpf .oeq main_arg12 main_v10
  let main_cst_5 : FVec F S_ .f32 := constant S_ .f32 0x00000000#32
  let main_v12 : FVec F S1024 .f32 := broadcastInDim S1024 ![] bcast_S_S1024 main_cst_5
  let main_v13 : IVec S1024 1 := cmpf .oeq main_arg18 main_v12
  let main_v14 : FVec F S2x1024 .f32 := Host.absf main_arg2
  let main_cst_6 : FVec F S_ .f32 := constant S_ .f32 0x7F800000#32
  let main_v15 : FVec F S2x1024 .f32 := broadcastInDim S2x1024 ![] bcast_S_S2x1024 main_cst_6
  fn_part1 (F := F) main_arg5 main_arg7 main_arg9 main_arg13 main_arg15 main_arg16 main_arg17 main_v1 main_v3 main_v5 main_v7 main_v9 main_v11 main_v13 main_v14 main_v15
-- ==== Kernel.lean ====
abbrev S2x4096x1024 : Shape := ⟨3, ![2, 4096, 1024]⟩
abbrev S2x1024 : Shape := ⟨2, ![2, 1024]⟩
abbrev S2048 : Shape := ⟨1, ![2048]⟩
abbrev S1024 : Shape := ⟨1, ![1024]⟩
abbrev S2048x1024 : Shape := ⟨2, ![2048, 1024]⟩
abbrev S1024x1024 : Shape := ⟨2, ![1024, 1024]⟩
abbrev S1024x16 : Shape := ⟨2, ![1024, 16]⟩
abbrev S16 : Shape := ⟨1, ![16]⟩
abbrev S1024x64 : Shape := ⟨2, ![1024, 64]⟩
abbrev S64 : Shape := ⟨1, ![64]⟩
abbrev S1x64 : Shape := ⟨2, ![1, 64]⟩
abbrev S64x64 : Shape := ⟨2, ![64, 64]⟩
abbrev S64x1024 : Shape := ⟨2, ![64, 1024]⟩
abbrev S1x1024 : Shape := ⟨2, ![1, 1024]⟩
abbrev S1024x256 : Shape := ⟨2, ![1024, 256]⟩
abbrev S_ : Shape := ⟨0, ![]⟩
abbrev S2x1024x1024 : Shape := ⟨3, ![2, 1024, 1024]⟩
abbrev S2048x64 : Shape := ⟨2, ![2048, 64]⟩
abbrev S1x128 : Shape := ⟨2, ![1, 128]⟩
abbrev S1x8x1024 : Shape := ⟨3, ![1, 8, 1024]⟩
abbrev S1x1024x1024 : Shape := ⟨3, ![1, 1024, 1024]⟩
abbrev S256x1024 : Shape := ⟨2, ![256, 1024]⟩
abbrev S8x1024 : Shape := ⟨2, ![8, 1024]⟩
abbrev S16x1024 : Shape := ⟨2, ![16, 1024]⟩
abbrev S16x1 : Shape := ⟨2, ![16, 1]⟩
abbrev S16x64 : Shape := ⟨2, ![16, 64]⟩
abbrev S1024x1 : Shape := ⟨2, ![1024, 1]⟩

abbrev nBuf : Space → Nat
  | .hbm => 52
  | .vmem => 36
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1024, .f32⟩
  | .hbm, ⟨3, _⟩ => ⟨S2048, .f32⟩
  | .hbm, ⟨4, _⟩ => ⟨S2048, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x16, .f32⟩
  | .hbm, ⟨12, _⟩ => ⟨S16, .f32⟩
  | .hbm, ⟨13, _⟩ => ⟨S1024x64, .f32⟩
  | .hbm, ⟨14, _⟩ => ⟨S64, .f32⟩
  | .hbm, ⟨15, _⟩ => ⟨S1024x64, .f32⟩
  | .hbm, ⟨16, _⟩ => ⟨S64, .f32⟩
  | .hbm, ⟨17, _⟩ => ⟨S1024x1024, .f32⟩
  | .hbm, ⟨18, _⟩ => ⟨S1024, .f32⟩
  | .hbm, ⟨19, _⟩ => ⟨S64, .f32⟩
  | .hbm, ⟨20, _⟩ => ⟨S1x64, .f32⟩
  | .hbm, ⟨21, _⟩ => ⟨S64x64, .f32⟩
  | .hbm, ⟨22, _⟩ => ⟨S64x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1024x256, .i32⟩
  | .hbm, ⟨28, _⟩ => ⟨S1024x256, .i32⟩
  | .hbm, ⟨29, _⟩ => ⟨S_, .i32⟩
  | .hbm, ⟨30, _⟩ => ⟨S1024x256, .i32⟩
  | .hbm, ⟨31, _⟩ => ⟨S1024x256, .i32⟩
  | .hbm, ⟨32, _⟩ => ⟨S_, .i32⟩
  | .hbm, ⟨33, _⟩ => ⟨S1024x256, .i32⟩
  | .hbm, ⟨34, _⟩ => ⟨S1024x256, .i32⟩
  | .hbm, ⟨35, _⟩ => ⟨S_, .i32⟩
  | .hbm, ⟨36, _⟩ => ⟨S1024x256, .i32⟩
  | .hbm, ⟨37, _⟩ => ⟨S1024x256, .i32⟩
  | .hbm, ⟨38, _⟩ => ⟨S_, .i32⟩
  | .hbm, ⟨39, _⟩ => ⟨S1024x256, .i32⟩
  | .hbm, ⟨40, _⟩ => ⟨S1024x256, .i32⟩
  | .hbm, ⟨41, _⟩ => ⟨S1024x256, .i32⟩
  | .hbm, ⟨42, _⟩ => ⟨S1024x256, .i1⟩
  | .hbm, ⟨43, _⟩ => ⟨S1024x256, .f32⟩
  | .hbm, ⟨44, _⟩ => ⟨S2x1024x1024, .bf16⟩
  | .hbm, ⟨45, _⟩ => ⟨S2048x64, .bf16⟩
  | .hbm, ⟨46, _⟩ => ⟨S2048x64, .bf16⟩
  | .hbm, ⟨47, _⟩ => ⟨S1x128, .f32⟩
  | .hbm, ⟨48, _⟩ => ⟨S1x64, .f32⟩
  | .hbm, ⟨49, _⟩ => ⟨S1x64, .f32⟩
  | .hbm, ⟨50, _⟩ => ⟨S1x128, .f32⟩
  | .hbm, ⟨51, _⟩ => ⟨S2x4096x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S2x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x256, .f32⟩
  | .local _ .vmem, ⟨10, _⟩ => ⟨S2048x1024, .f32⟩
  | .local _ .vmem, ⟨11, _⟩ => ⟨S1024x64, .f32⟩
  | .local _ .vmem, ⟨12, _⟩ => ⟨S1024x64, .f32⟩
  | .local _ .vmem, ⟨13, _⟩ => ⟨S1x1024x1024, .bf16⟩
  | .local _ .vmem, ⟨14, _⟩ => ⟨S1x1024x1024, .bf16⟩
  | .local _ .vmem, ⟨15, _⟩ => ⟨S2048x64, .bf16⟩
  | .local _ .vmem, ⟨16, _⟩ => ⟨S2048x64, .bf16⟩
  | .local _ .vmem, ⟨17, _⟩ => ⟨S1x128, .f32⟩
  | .local _ .vmem, ⟨18, _⟩ => ⟨S256x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1x1024x1024, .f32⟩
  | .local _ .vmem, ⟨22, _⟩ => ⟨S1x1024x1024, .f32⟩
  | .local _ .vmem, ⟨23, _⟩ => ⟨S2x1024, .f32⟩
  | .local _ .vmem, ⟨24, _⟩ => ⟨S2048x64, .bf16⟩
  | .local _ .vmem, ⟨25, _⟩ => ⟨S2048x64, .bf16⟩
  | .local _ .vmem, ⟨26, _⟩ => ⟨S1x128, .f32⟩
  | .local _ .vmem, ⟨27, _⟩ => ⟨S1x128, .f32⟩
  | .local _ .vmem, ⟨28, _⟩ => ⟨S1x64, .f32⟩
  | .local _ .vmem, ⟨29, _⟩ => ⟨S64x64, .f32⟩
  | .local _ .vmem, ⟨30, _⟩ => ⟨S64x1024, .f32⟩
  | .local _ .vmem, ⟨31, _⟩ => ⟨S1x1024, .f32⟩
  | .local _ .vmem, ⟨32, _⟩ => ⟨S1x1024x1024, .bf16⟩
  | .local _ .vmem, ⟨33, _⟩ => ⟨S1x1024x1024, .bf16⟩
  | .local _ .vmem, ⟨34, _⟩ => ⟨S1x1024x1024, .f32⟩
  | .local _ .vmem, ⟨35, _⟩ => ⟨S1x1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_cst_1 : Ref sig .tc := ⟨.hbm, 22, rfl⟩
abbrev main_cst_2 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c : Ref sig .tc := ⟨.hbm, 29, rfl⟩
abbrev main_v6 : Ref sig .tc := ⟨.hbm, 30, rfl⟩
abbrev main_v7 : Ref sig .tc := ⟨.hbm, 31, rfl⟩
abbrev main_c_3 : Ref sig .tc := ⟨.hbm, 32, rfl⟩
abbrev main_v8 : Ref sig .tc := ⟨.hbm, 33, rfl⟩
abbrev main_v9 : Ref sig .tc := ⟨.hbm, 34, rfl⟩
abbrev main_c_4 : Ref sig .tc := ⟨.hbm, 35, rfl⟩
abbrev main_v10 : Ref sig .tc := ⟨.hbm, 36, rfl⟩
abbrev main_v11 : Ref sig .tc := ⟨.hbm, 37, rfl⟩
abbrev main_c_5 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17_0 : Ref sig .tc := ⟨.hbm, 44, rfl⟩
abbrev main_v17_1 : Ref sig .tc := ⟨.hbm, 45, rfl⟩
abbrev main_v17_2 : Ref sig .tc := ⟨.hbm, 46, rfl⟩
abbrev main_v17_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem14_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem11_1 : DmaSem sig := 32
abbrev cc1_sem12_0 : DmaSem sig := 33
abbrev cc1_sem12_1 : DmaSem sig := 34

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v123 : BitVec 1 := Scalar.cmpi .eq arg0 c0_i32
  let v124 : BitVec 32 := Scalar.extui v123
  let c0_i32_42 : BitVec 32 := 0#32
  let v125 : BitVec 1 := Scalar.cmpi .ne v124 c0_i32_42
  v125

def cc0_transform_0 (i : grid0.Coords) : Fin 3 → Nat :=
  let arg0 : BitVec 32 := BitVec.ofNat 32 (i 0).val
  let c511_i32 : BitVec 32 := 511#32
  let c0_i32 : BitVec 32 := 0#32
  let c0_i32_0 : BitVec 32 := 0#32
  ![arg0.toNat, c511_i32.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2048x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2048x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1x1024x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x1024x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== ReferenceIdeal.lean ====
abbrev S2x4096x1024 : Shape := ⟨3, ![2, 4096, 1024]⟩
abbrev S2x1024 : Shape := ⟨2, ![2, 1024]⟩
abbrev S2048 : Shape := ⟨1, ![2048]⟩
abbrev S1024 : Shape := ⟨1, ![1024]⟩
abbrev S2048x1024 : Shape := ⟨2, ![2048, 1024]⟩
abbrev S1024x1024 : Shape := ⟨2, ![1024, 1024]⟩
abbrev S1024x16 : Shape := ⟨2, ![1024, 16]⟩
abbrev S16 : Shape := ⟨1, ![16]⟩
abbrev S1024x64 : Shape := ⟨2, ![1024, 64]⟩
abbrev S64 : Shape := ⟨1, ![64]⟩
abbrev S_ : Shape := ⟨0, ![]⟩
abbrev S1x1024 : Shape := ⟨2, ![1, 1024]⟩
abbrev S1x1x1024 : Shape := ⟨3, ![1, 1, 1024]⟩
abbrev S2x4096x2048 : Shape := ⟨3, ![2, 4096, 2048]⟩
abbrev S2x4096 : Shape := ⟨2, ![2, 4096]⟩
abbrev S2x4096x1 : Shape := ⟨3, ![2, 4096, 1]⟩
abbrev S1x1x2048 : Shape := ⟨3, ![1, 1, 2048]⟩
abbrev S2x8192x1024 : Shape := ⟨3, ![2, 8192, 1024]⟩
abbrev S2x8192 : Shape := ⟨2, ![2, 8192]⟩
abbrev S2x8192x1 : Shape := ⟨3, ![2, 8192, 1]⟩
abbrev S2x8192x16x64 : Shape := ⟨4, ![2, 8192, 16, 64]⟩
abbrev S2x16x8192x64 : Shape := ⟨4, ![2, 16, 8192, 64]⟩
abbrev S2x4096x16 : Shape := ⟨3, ![2, 4096, 16]⟩
abbrev S1x1x16 : Shape := ⟨3, ![1, 1, 16]⟩
abbrev S2x4096x64 : Shape := ⟨3, ![2, 4096, 64]⟩
abbrev S1x1x64 : Shape := ⟨3, ![1, 1, 64]⟩
abbrev S2x4096x16x4 : Shape := ⟨4, ![2, 4096, 16, 4]⟩
abbrev S2x4096x16x1 : Shape := ⟨4, ![2, 4096, 16, 1]⟩
abbrev S4 : Shape := ⟨1, ![4]⟩
abbrev S1x1x1x4 : Shape := ⟨4, ![1, 1, 1, 4]⟩
abbrev S2x16x4096x4 : Shape := ⟨4, ![2, 16, 4096, 4]⟩
abbrev S2x16x16384 : Shape := ⟨3, ![2, 16, 16384]⟩
abbrev S2x16x16384x1 : Shape := ⟨4, ![2, 16, 16384, 1]⟩
abbrev S1 : Shape := ⟨1, ![1]⟩
abbrev S1x1x1x1 : Shape := ⟨4, ![1, 1, 1, 1]⟩
abbrev S2x16x16384x64 : Shape := ⟨4, ![2, 16, 16384, 64]⟩
abbrev S2x16x4096x4x64 : Shape := ⟨5, ![2, 16, 4096, 4, 64]⟩
abbrev S2x16x4096x4x1 : Shape := ⟨5, ![2, 16, 4096, 4, 1]⟩
abbrev S2x4096x16x4x64 : Shape := ⟨5, ![2, 4096, 16, 4, 64]⟩
abbrev S2x4096x16x4x1 : Shape := ⟨5, ![2, 4096, 16, 4, 1]⟩
abbrev S2x4096x16x64 : Shape := ⟨4, ![2, 4096, 16, 64]⟩

abbrev nBuf : Space → Nat
  | .hbm => 329
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x1024, .f32⟩
  | 3 => ⟨S2048, .f32⟩
  | 4 => ⟨S2048, .f32⟩
  | 5 => ⟨S1024, .f32⟩
  | 6 => ⟨S1024, .f32⟩
  | 7 => ⟨S2048x1024, .f32⟩
  | 8 => ⟨S1024, .f32⟩
  | 9 => ⟨S1024x1024, .f32⟩
  | 10 => ⟨S1024, .f32⟩
  | 11 => ⟨S1024x16, .f32⟩
  | 12 => ⟨S16, .f32⟩
  | 13 => ⟨S1024x64, .f32⟩
  | 14 => ⟨S64, .f32⟩
  | 15 => ⟨S1024x64, .f32⟩
  | 16 => ⟨S64, .f32⟩
  | 17 => ⟨S1024x1024, .f32⟩
  | 18 => ⟨S1024, .f32⟩
  | 19 => ⟨S_, .f32⟩
  | 20 => ⟨S_, .f32⟩
  | 21 => ⟨S_, .f32⟩
  | 22 => ⟨S2x4096x1024, .i1⟩
  | 23 => ⟨S_, .f32⟩
  | 24 => ⟨S2x4096x1024, .f32⟩
  | 25 => ⟨S2x4096x1024, .f32⟩
  | 26 => ⟨S_, .f32⟩
  | 27 => ⟨S2x4096x1024, .f32⟩
  | 28 => ⟨S2x4096x1024, .i1⟩
  | 29 => ⟨S_, .f32⟩
  | 30 => ⟨S2x4096x1024, .f32⟩
  | 31 => ⟨S2x4096x1024, .f32⟩
  | 32 => ⟨S_, .f32⟩
  | 33 => ⟨S2x4096x1024, .f32⟩
  | 34 => ⟨S2x4096x1024, .i1⟩
  | 35 => ⟨S_, .f32⟩
  | 36 => ⟨S2x4096x1024, .f32⟩
  | 37 => ⟨S2x4096x1024, .f32⟩
  | 38 => ⟨S_, .f32⟩
  | 39 => ⟨S_, .f32⟩
  | 40 => ⟨S_, .f32⟩
  | 41 => ⟨S2x4096x1024, .i1⟩
  | 42 => ⟨S_, .f32⟩
  | 43 => ⟨S2x4096x1024, .f32⟩
  | 44 => ⟨S2x4096x1024, .f32⟩
  | 45 => ⟨S_, .f32⟩
  | 46 => ⟨S2x4096x1024, .f32⟩
  | 47 => ⟨S2x4096x1024, .i1⟩
  | 48 => ⟨S_, .f32⟩
  | 49 => ⟨S2x4096x1024, .f32⟩
  | 50 => ⟨S2x4096x1024, .f32⟩
  | 51 => ⟨S_, .f32⟩
  | 52 => ⟨S2x4096x1024, .f32⟩
  | 53 => ⟨S2x4096x1024, .i1⟩
  | 54 => ⟨S_, .f32⟩
  | 55 => ⟨S2x4096x1024, .f32⟩
  | 56 => ⟨S2x4096x1024, .f32⟩
  | 57 => ⟨S1x1024, .f32⟩
  | 58 => ⟨S1024, .f32⟩
  | 59 => ⟨S1x1x1024, .f32⟩
  | 60 => ⟨S2x4096x1024, .f32⟩
  | 61 => ⟨S2x4096x1024, .f32⟩
  | 62 => ⟨S1x1024, .f32⟩
  | 63 => ⟨S1024, .f32⟩
  | 64 => ⟨S1x1x1024, .f32⟩
  | 65 => ⟨S2x4096x1024, .f32⟩
  | 66 => ⟨S2x4096x1024, .f32⟩
  | 67 => ⟨S2x4096x2048, .f32⟩
  | 68 => ⟨S_, .f32⟩
  | 69 => ⟨S2x4096, .f32⟩
  | 70 => ⟨S2x4096x1, .f32⟩
  | 71 => ⟨S_, .f32⟩
  | 72 => ⟨S2x4096x1, .f32⟩
  | 73 => ⟨S2x4096x1, .f32⟩
  | 74 => ⟨S2x4096x2048, .f32⟩
  | 75 => ⟨S2x4096x2048, .f32⟩
  | 76 => ⟨S2x4096x2048, .f32⟩
  | 77 => ⟨S_, .f32⟩
  | 78 => ⟨S2x4096, .f32⟩
  | 79 => ⟨S2x4096x1, .f32⟩
  | 80 => ⟨S_, .f32⟩
  | 81 => ⟨S2x4096x1, .f32⟩
  | 82 => ⟨S2x4096x1, .f32⟩
  | 83 => ⟨S2x4096x2048, .f32⟩
  | 84 => ⟨S2x4096x2048, .f32⟩
  | 85 => ⟨S_, .f32⟩
  | 86 => ⟨S2x4096x1, .f32⟩
  | 87 => ⟨S2x4096x1, .f32⟩
  | 88 => ⟨S2x4096x1, .f32⟩
  | 89 => ⟨S2x4096x2048, .f32⟩
  | 90 => ⟨S2x4096x2048, .f32⟩
  | 91 => ⟨S1x1x2048, .f32⟩
  | 92 => ⟨S2x4096x2048, .f32⟩
  | 93 => ⟨S2x4096x2048, .f32⟩
  | 94 => ⟨S1x1x2048, .f32⟩
  | 95 => ⟨S2x4096x2048, .f32⟩
  | 96 => ⟨S2x4096x2048, .f32⟩
  | 97 => ⟨S2x8192x1024, .f32⟩
  | 98 => ⟨S_, .f32⟩
  | 99 => ⟨S2x8192, .f32⟩
  | 100 => ⟨S2x8192x1, .f32⟩
  | 101 => ⟨S_, .f32⟩
  | 102 => ⟨S2x8192x1, .f32⟩
  | 103 => ⟨S2x8192x1, .f32⟩
  | 104 => ⟨S2x8192x1024, .f32⟩
  | 105 => ⟨S2x8192x1024, .f32⟩
  | 106 => ⟨S2x8192x1024, .f32⟩
  | 107 => ⟨S_, .f32⟩
  | 108 => ⟨S2x8192, .f32⟩
  | 109 => ⟨S2x8192x1, .f32⟩
  | 110 => ⟨S_, .f32⟩
  | 111 => ⟨S2x8192x1, .f32⟩
  | 112 => ⟨S2x8192x1, .f32⟩
  | 113 => ⟨S2x8192x1024, .f32⟩
  | 114 => ⟨S2x8192x1024, .f32⟩
  | 115 => ⟨S_, .f32⟩
  | 116 => ⟨S2x8192x1, .f32⟩
  | 117 => ⟨S2x8192x1, .f32⟩
  | 118 => ⟨S2x8192x1, .f32⟩
  | 119 => ⟨S2x8192x1024, .f32⟩
  | 120 => ⟨S2x8192x1024, .f32⟩
  | 121 => ⟨S1x1x1024, .f32⟩
  | 122 => ⟨S2x8192x1024, .f32⟩
  | 123 => ⟨S2x8192x1024, .f32⟩
  | 124 => ⟨S1x1x1024, .f32⟩
  | 125 => ⟨S2x8192x1024, .f32⟩
  | 126 => ⟨S2x8192x1024, .f32⟩
  | 127 => ⟨S2x4096x1024, .f32⟩
  | _ => ⟨S2x4096x1024, .f32⟩

abbrev hbmTy0_1 (i : Nat) : BufTy := match i % 128 with
  | 0 => ⟨S1x1x1024, .f32⟩
  | 1 => ⟨S2x4096x1024, .f32⟩
  | 2 => ⟨S2x4096x1024, .f32⟩
  | 3 => ⟨S2x8192x1024, .f32⟩
  | 4 => ⟨S1x1x1024, .f32⟩
  | 5 => ⟨S2x8192x1024, .f32⟩
  | 6 => ⟨S2x8192x1024, .f32⟩
  | 7 => ⟨S2x8192x16x64, .f32⟩
  | 8 => ⟨S2x16x8192x64, .f32⟩
  | 9 => ⟨S2x4096x16, .f32⟩
  | 10 => ⟨S1x1x16, .f32⟩
  | 11 => ⟨S2x4096x16, .f32⟩
  | 12 => ⟨S2x4096x16, .f32⟩
  | 13 => ⟨S2x4096x16, .f32⟩
  | 14 => ⟨S2x4096x16, .f32⟩
  | 15 => ⟨S_, .f32⟩
  | 16 => ⟨S2x4096x16, .f32⟩
  | 17 => ⟨S2x4096x16, .f32⟩
  | 18 => ⟨S_, .f32⟩
  | 19 => ⟨S2x4096x16, .f32⟩
  | 20 => ⟨S2x4096x16, .f32⟩
  | 21 => ⟨S2x4096x64, .f32⟩
  | 22 => ⟨S1x1x64, .f32⟩
  | 23 => ⟨S2x4096x64, .f32⟩
  | 24 => ⟨S2x4096x64, .f32⟩
  | 25 => ⟨S2x4096x64, .f32⟩
  | 26 => ⟨S1x1x64, .f32⟩
  | 27 => ⟨S2x4096x64, .f32⟩
  | 28 => ⟨S2x4096x64, .f32⟩
  | 29 => ⟨S_, .f32⟩
  | 30 => ⟨S2x4096, .f32⟩
  | 31 => ⟨S2x4096x1, .f32⟩
  | 32 => ⟨S2x4096x64, .f32⟩
  | 33 => ⟨S2x4096x64, .f32⟩
  | 34 => ⟨S2x4096x16x4, .f32⟩
  | 35 => ⟨S_, .f32⟩
  | 36 => ⟨S2x4096x16, .f32⟩
  | 37 => ⟨S2x4096x16x1, .f32⟩
  | 38 => ⟨S2x4096x16x4, .f32⟩
  | 39 => ⟨S2x4096x16x4, .f32⟩
  | 40 => ⟨S_, .f32⟩
  | 41 => ⟨S2x4096x16, .f32⟩
  | 42 => ⟨S_, .f32⟩
  | 43 => ⟨S2x4096x16, .f32⟩
  | 44 => ⟨S2x4096x16, .f32⟩
  | 45 => ⟨S2x4096x16x1, .f32⟩
  | 46 => ⟨S2x4096x16x4, .f32⟩
  | 47 => ⟨S2x4096x16x4, .f32⟩
  | 48 => ⟨S2x4096x16x4, .f32⟩
  | 49 => ⟨S_, .f32⟩
  | 50 => ⟨S2x4096x16, .f32⟩
  | 51 => ⟨S2x4096x16x1, .f32⟩
  | 52 => ⟨S2x4096x16x4, .f32⟩
  | 53 => ⟨S2x4096x16x4, .f32⟩
  | 54 => ⟨S_, .f32⟩
  | 55 => ⟨S_, .f32⟩
  | 56 => ⟨S_, .f32⟩
  | 57 => ⟨S2x4096x16x4, .i1⟩
  | 58 => ⟨S_, .f32⟩
  | 59 => ⟨S2x4096x16x4, .f32⟩
  | 60 => ⟨S2x4096x16x4, .f32⟩
  | 61 => ⟨S_, .f32⟩
  | 62 => ⟨S2x4096x16x4, .f32⟩
  | 63 => ⟨S2x4096x16x4, .i1⟩
  | 64 => ⟨S_, .f32⟩
  | 65 => ⟨S2x4096x16x4, .f32⟩
  | 66 => ⟨S2x4096x16x4, .f32⟩
  | 67 => ⟨S_, .f32⟩
  | 68 => ⟨S2x4096x16x4, .f32⟩
  | 69 => ⟨S2x4096x16x4, .i1⟩
  | 70 => ⟨S_, .f32⟩
  | 71 => ⟨S2x4096x16x4, .f32⟩
  | 72 => ⟨S2x4096x16x4, .f32⟩
  | 73 => ⟨S2x4096x16x4, .f32⟩
  | 74 => ⟨S2x4096x16x4, .f32⟩
  | 75 => ⟨S_, .f32⟩
  | 76 => ⟨S2x4096x16x4, .f32⟩
  | 77 => ⟨S2x4096x16x4, .f32⟩
  | 78 => ⟨S4, .f32⟩
  | 79 => ⟨S_, .f32⟩
  | 80 => ⟨S4, .f32⟩
  | 81 => ⟨S4, .f32⟩
  | 82 => ⟨S1x1x1x4, .f32⟩
  | 83 => ⟨S2x4096x16x1, .f32⟩
  | 84 => ⟨S_, .f32⟩
  | 85 => ⟨S2x4096x16x1, .f32⟩
  | 86 => ⟨S2x4096x16x1, .f32⟩
  | 87 => ⟨S2x4096x16x4, .f32⟩
  | 88 => ⟨S2x4096x16x4, .f32⟩
  | 89 => ⟨S2x4096x16x4, .f32⟩
  | 90 => ⟨S2x4096x16x4, .f32⟩
  | 91 => ⟨S_, .f32⟩
  | 92 => ⟨S_, .f32⟩
  | 93 => ⟨S_, .f32⟩
  | 94 => ⟨S2x4096x16x4, .i1⟩
  | 95 => ⟨S_, .f32⟩
  | 96 => ⟨S2x4096x16x4, .f32⟩
  | 97 => ⟨S2x4096x16x4, .f32⟩
  | 98 => ⟨S_, .f32⟩
  | 99 => ⟨S2x4096x16x4, .f32⟩
  | 100 => ⟨S2x4096x16x4, .i1⟩
  | 101 => ⟨S_, .f32⟩
  | 102 => ⟨S2x4096x16x4, .f32⟩
  | 103 => ⟨S2x4096x16x4, .f32⟩
  | 104 => ⟨S_, .f32⟩
  | 105 => ⟨S2x4096x16x4, .f32⟩
  | 106 => ⟨S2x4096x16x4, .i1⟩
  | 107 => ⟨S_, .f32⟩
  | 108 => ⟨S2x4096x16x4, .f32⟩
  | 109 => ⟨S2x4096x16x4, .f32⟩
  | 110 => ⟨S_, .f32⟩
  | 111 => ⟨S_, .f32⟩
  | 112 => ⟨S_, .f32⟩
  | 113 => ⟨S2x4096x16x4, .f32⟩
  | 114 => ⟨S2x4096x16x4, .f32⟩
  | 115 => ⟨S_, .f32⟩
  | 116 => ⟨S2x4096x16x4, .f32⟩
  | 117 => ⟨S2x4096x16x4, .f32⟩
  | 118 => ⟨S2x4096x16x4, .f32⟩
  | 119 => ⟨S2x4096x16x4, .i32⟩
  | 120 => ⟨S_, .i32⟩
  | 121 => ⟨S2x4096x16x4, .i32⟩
  | 122 => ⟨S2x4096x16x4, .i32⟩
  | 123 => ⟨S_, .i32⟩
  | 124 => ⟨S2x4096x16x4, .i32⟩
  | 125 => ⟨S2x4096x16x4, .i32⟩
  | 126 => ⟨S2x4096x16x4, .f32⟩
  | 127 => ⟨S2x4096x16x4, .f32⟩
  | _ => ⟨S2x4096x1024, .f32⟩

abbrev hbmTy0_2 (i : Nat) : BufTy := match i % 128 with
  | 0 => ⟨S2x16x4096x4, .i32⟩
  | 1 => ⟨S2x16x16384, .i32⟩
  | 2 => ⟨S2x16x4096x4, .i32⟩
  | 3 => ⟨S2x16x16384, .i32⟩
  | 4 => ⟨S2x16x16384x1, .i32⟩
  | 5 => ⟨S_, .i32⟩
  | 6 => ⟨S2x16x16384x1, .i32⟩
  | 7 => ⟨S2x16x16384x1, .i1⟩
  | 8 => ⟨S_, .i32⟩
  | 9 => ⟨S2x16x16384x1, .i32⟩
  | 10 => ⟨S2x16x16384x1, .i32⟩
  | 11 => ⟨S2x16x16384x1, .i32⟩
  | 12 => ⟨S1, .i32⟩
  | 13 => ⟨S_, .i32⟩
  | 14 => ⟨S2x16x16384x1, .i32⟩
  | 15 => ⟨S2x16x16384x1, .i1⟩
  | 16 => ⟨S1x1x1x1, .i32⟩
  | 17 => ⟨S2x16x16384x1, .i32⟩
  | 18 => ⟨S2x16x16384x1, .i1⟩
  | 19 => ⟨S2x16x16384x1, .i1⟩
  | 20 => ⟨S_, .i1⟩
  | 21 => ⟨S2x16x16384, .i1⟩
  | 22 => ⟨S2x16x16384x64, .f32⟩
  | 23 => ⟨S2x16x16384x64, .i1⟩
  | 24 => ⟨S_, .f32⟩
  | 25 => ⟨S2x16x16384x64, .f32⟩
  | 26 => ⟨S2x16x16384x64, .f32⟩
  | 27 => ⟨S2x16x4096x4x64, .f32⟩
  | 28 => ⟨S2x16x16384x1, .i32⟩
  | 29 => ⟨S_, .i32⟩
  | 30 => ⟨S2x16x16384x1, .i32⟩
  | 31 => ⟨S2x16x16384x1, .i1⟩
  | 32 => ⟨S_, .i32⟩
  | 33 => ⟨S2x16x16384x1, .i32⟩
  | 34 => ⟨S2x16x16384x1, .i32⟩
  | 35 => ⟨S2x16x16384x1, .i32⟩
  | 36 => ⟨S1, .i32⟩
  | 37 => ⟨S_, .i32⟩
  | 38 => ⟨S2x16x16384x1, .i32⟩
  | 39 => ⟨S2x16x16384x1, .i1⟩
  | 40 => ⟨S1x1x1x1, .i32⟩
  | 41 => ⟨S2x16x16384x1, .i32⟩
  | 42 => ⟨S2x16x16384x1, .i1⟩
  | 43 => ⟨S2x16x16384x1, .i1⟩
  | 44 => ⟨S_, .i1⟩
  | 45 => ⟨S2x16x16384, .i1⟩
  | 46 => ⟨S2x16x16384x64, .f32⟩
  | 47 => ⟨S2x16x16384x64, .i1⟩
  | 48 => ⟨S_, .f32⟩
  | 49 => ⟨S2x16x16384x64, .f32⟩
  | 50 => ⟨S2x16x16384x64, .f32⟩
  | 51 => ⟨S2x16x4096x4x64, .f32⟩
  | 52 => ⟨S2x16x4096x4, .f32⟩
  | 53 => ⟨S2x16x4096x4x1, .f32⟩
  | 54 => ⟨S_, .f32⟩
  | 55 => ⟨S2x16x4096x4x1, .f32⟩
  | 56 => ⟨S2x16x4096x4x1, .f32⟩
  | 57 => ⟨S2x16x4096x4x64, .f32⟩
  | 58 => ⟨S2x16x4096x4x64, .f32⟩
  | 59 => ⟨S2x16x4096x4x64, .f32⟩
  | 60 => ⟨S2x16x4096x4x64, .f32⟩
  | 61 => ⟨S2x16x4096x4x64, .f32⟩
  | 62 => ⟨S2x4096x16x4x64, .f32⟩
  | 63 => ⟨S2x4096x16x4x1, .f32⟩
  | 64 => ⟨S2x4096x16x4x64, .f32⟩
  | 65 => ⟨S2x4096x16x4x64, .f32⟩
  | 66 => ⟨S_, .f32⟩
  | 67 => ⟨S2x4096x16x64, .f32⟩
  | 68 => ⟨S2x4096x1024, .f32⟩
  | 69 => ⟨S2x4096x1024, .f32⟩
  | 70 => ⟨S1x1x1024, .f32⟩
  | 71 => ⟨S2x4096x1024, .f32⟩
  | 72 => ⟨S2x4096x1024, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_call0_v0 : Ref sig .tc := ⟨.hbm, 24, rfl⟩
abbrev main_call0_v2 : Ref sig .tc := ⟨.hbm, 25, rfl⟩
abbrev main_call0_cst : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_call1_v0 : Ref sig .tc := ⟨.hbm, 30, rfl⟩
abbrev main_call0_v6 : Ref sig .tc := ⟨.hbm, 31, rfl⟩
abbrev main_call0_cst_0 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_call2_v0 : Ref sig .tc := ⟨.hbm, 36, rfl⟩
abbrev main_v0 : Ref sig .tc := ⟨.hbm, 37, rfl⟩
abbrev main_cst_2 : Ref sig .tc := ⟨.hbm, 38, rfl⟩
abbrev main_cst_3 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_call0_v0 : Ref sig .tc := ⟨.hbm, 43, rfl⟩
abbrev main_call1_v2 : Ref sig .tc := ⟨.hbm, 44, rfl⟩
abbrev main_call1_cst : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_call1_v0 : Ref sig .tc := ⟨.hbm, 49, rfl⟩
abbrev main_call1_v6 : Ref sig .tc := ⟨.hbm, 50, rfl⟩
abbrev main_call1_cst_0 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_call2_v0 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_cst_5 : Ref sig .tc := ⟨.hbm, 68, rfl⟩
abbrev main_v13 : Ref sig .tc := ⟨.hbm, 69, rfl⟩
abbrev main_v14 : Ref sig .tc := ⟨.hbm, 70, rfl⟩
abbrev main_cst_6 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_cst_7 : Ref sig .tc := ⟨.hbm, 77, rfl⟩
abbrev main_v20 : Ref sig .tc := ⟨.hbm, 78, rfl⟩
abbrev main_v21 : Ref sig .tc := ⟨.hbm, 79, rfl⟩
abbrev main_cst_8 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_cst_9 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_cst_10 : Ref sig .tc := ⟨.hbm, 98, rfl⟩
abbrev main_v38 : Ref sig .tc := ⟨.hbm, 99, rfl⟩
abbrev main_v39 : Ref sig .tc := ⟨.hbm, 100, rfl⟩
abbrev main_cst_11 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_cst_12 : Ref sig .tc := ⟨.hbm, 107, rfl⟩
abbrev main_v45 : Ref sig .tc := ⟨.hbm, 108, rfl⟩
abbrev main_v46 : Ref sig .tc := ⟨.hbm, 109, rfl⟩
abbrev main_cst_13 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_cst_14 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_cst_15 : Ref sig .tc := ⟨.hbm, 143, rfl⟩
abbrev main_v78 : Ref sig .tc := ⟨.hbm, 144, rfl⟩
abbrev main_v79 : Ref sig .tc := ⟨.hbm, 145, rfl⟩
abbrev main_cst_16 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_cst_17 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_cst_18 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_cst_19 : Ref sig .tc := ⟨.hbm, 168, rfl⟩
abbrev main_v99 : Ref sig .tc := ⟨.hbm, 169, rfl⟩
abbrev main_cst_20 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_cst_21 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_22 : Ref sig .tc := ⟨.hbm, 182, rfl⟩
abbrev main_cst_23 : Ref sig .tc := ⟨.hbm, 183, rfl⟩
abbrev main_cst_24 : Ref sig .tc := ⟨.hbm, 184, rfl⟩
abbrev main_call2_v0 : Ref sig .tc := ⟨.hbm, 185, rfl⟩
abbrev main_call2_v1 : Ref sig .tc := ⟨.hbm, 186, rfl⟩
abbrev main_call2_call0_v0 : Ref sig .tc := ⟨.hbm, 187, rfl⟩
abbrev main_call2_v2 : Ref sig .tc := ⟨.hbm, 188, rfl⟩
abbrev main_call2_cst : Ref sig .tc := ⟨.hbm, 189, rfl⟩
abbrev main_call2_v3 : Ref sig .tc := ⟨.hbm, 190, rfl⟩
abbrev main_call2_v4 : Ref sig .tc := ⟨.hbm, 191, rfl⟩
abbrev main_call2_v5 : Ref sig .tc := ⟨.hbm, 192, rfl⟩
abbrev main_call2_call1_v0 : Ref sig .tc := ⟨.hbm, 193, rfl⟩
abbrev main_call2_v6 : Ref sig .tc := ⟨.hbm, 194, rfl⟩
abbrev main_call2_cst_0 : Ref sig .tc := ⟨.hbm, 195, rfl⟩
abbrev main_call2_v7 : Ref sig .tc := ⟨.hbm, 196, rfl⟩
abbrev main_call2_v8 : Ref sig .tc := ⟨.hbm, 197, rfl⟩
abbrev main_call2_v9 : Ref sig .tc := ⟨.hbm, 198, rfl⟩
abbrev main_call2_call2_v0 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_cst_25 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_cst_26 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_cst_27 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_cst_28 : Ref sig .tc := ⟨.hbm, 219, rfl⟩
abbrev main_cst_29 : Ref sig .tc := ⟨.hbm, 220, rfl⟩
abbrev main_cst_30 : Ref sig .tc := ⟨.hbm, 221, rfl⟩
abbrev main_call3_v0 : Ref sig .tc := ⟨.hbm, 222, rfl⟩
abbrev main_call3_v1 : Ref sig .tc := ⟨.hbm, 223, rfl⟩
abbrev main_call3_call0_v0 : Ref sig .tc := ⟨.hbm, 224, rfl⟩
abbrev main_call3_v2 : Ref sig .tc := ⟨.hbm, 225, rfl⟩
abbrev main_call3_cst : Ref sig .tc := ⟨.hbm, 226, rfl⟩
abbrev main_call3_v3 : Ref sig .tc := ⟨.hbm, 227, rfl⟩
abbrev main_call3_v4 : Ref sig .tc := ⟨.hbm, 228, rfl⟩
abbrev main_call3_v5 : Ref sig .tc := ⟨.hbm, 229, rfl⟩
abbrev main_call3_call1_v0 : Ref sig .tc := ⟨.hbm, 230, rfl⟩
abbrev main_call3_v6 : Ref sig .tc := ⟨.hbm, 231, rfl⟩
abbrev main_call3_cst_0 : Ref sig .tc := ⟨.hbm, 232, rfl⟩
abbrev main_call3_v7 : Ref sig .tc := ⟨.hbm, 233, rfl⟩
abbrev main_call3_v8 : Ref sig .tc := ⟨.hbm, 234, rfl⟩
abbrev main_call3_v9 : Ref sig .tc := ⟨.hbm, 235, rfl⟩
abbrev main_call3_call2_v0 : Ref sig .tc := ⟨.hbm, 236, rfl⟩
abbrev main_v126 : Ref sig .tc := ⟨.hbm, 237, rfl⟩
abbrev main_cst_31 : Ref sig .tc := ⟨.hbm, 238, rfl⟩
abbrev main_cst_32 : Ref sig .tc := ⟨.hbm, 239, rfl⟩
abbrev main_call4_v0 : Ref sig .tc := ⟨.hbm, 240, rfl⟩
abbrev main_call4_v1 : Ref sig .tc := ⟨.hbm, 241, rfl⟩
abbrev main_call4_v2 : Ref sig .tc := ⟨.hbm, 242, rfl⟩
abbrev main_call4_v3 : Ref sig .tc := ⟨.hbm, 243, rfl⟩
abbrev main_call4_v4 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_c : Ref sig .tc := ⟨.hbm, 248, rfl⟩
abbrev main_v130 : Ref sig .tc := ⟨.hbm, 249, rfl⟩
abbrev main_v131 : Ref sig .tc := ⟨.hbm, 250, rfl⟩
abbrev main_c_33 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_call5_c : Ref sig .tc := ⟨.hbm, 261, rfl⟩
abbrev main_call5_v0 : Ref sig .tc := ⟨.hbm, 262, rfl⟩
abbrev main_call5_v1 : Ref sig .tc := ⟨.hbm, 263, rfl⟩
abbrev main_call5_c_0 : Ref sig .tc := ⟨.hbm, 264, rfl⟩
abbrev main_call5_v2 : Ref sig .tc := ⟨.hbm, 265, rfl⟩
abbrev main_call5_v3 : Ref sig .tc := ⟨.hbm, 266, rfl⟩
abbrev main_call5_v4 : Ref sig .tc := ⟨.hbm, 267, rfl⟩
abbrev main_call5_c_1 : Ref sig .tc := ⟨.hbm, 268, rfl⟩
abbrev main_call5_c_2 : Ref sig .tc := ⟨.hbm, 269, rfl⟩
abbrev main_call5_v5 : Ref sig .tc := ⟨.hbm, 270, rfl⟩
abbrev main_call5_v6 : Ref sig .tc := ⟨.hbm, 271, rfl⟩
abbrev main_call5_v7 : Ref sig .tc := ⟨.hbm, 272, rfl⟩
abbrev main_call5_v8 : Ref sig .tc := ⟨.hbm, 273, rfl⟩
abbrev main_call5_v9 : Ref sig .tc := ⟨.hbm, 274, rfl⟩
abbrev main_call5_v10 : Ref sig .tc := ⟨.hbm, 275, rfl⟩
abbrev main_call5_c_3 : Ref sig .tc := ⟨.hbm, 276, rfl⟩
abbrev main_call5_v11 : Ref sig .tc := ⟨.hbm, 277, rfl⟩
abbrev main_call5_v12 : Ref sig .tc := ⟨.hbm, 278, rfl⟩
abbrev main_call5_v13 : Ref sig .tc := ⟨.hbm, 279, rfl⟩
abbrev main_call5_cst : Ref sig .tc := ⟨.hbm, 280, rfl⟩
abbrev main_call5_v14 : Ref sig .tc := ⟨.hbm, 281, rfl⟩
abbrev main_v141 : Ref sig .tc := ⟨.hbm, 282, rfl⟩
abbrev main_v142 : Ref sig .tc := ⟨.hbm, 283, rfl⟩
abbrev main_v143 : Ref sig .tc := ⟨.hbm, 284, rfl⟩
abbrev main_call6_c : Ref sig .tc := ⟨.hbm, 285, rfl⟩
abbrev main_call6_v0 : Ref sig .tc := ⟨.hbm, 286, rfl⟩
abbrev main_call6_v1 : Ref sig .tc := ⟨.hbm, 287, rfl⟩
abbrev main_call6_c_0 : Ref sig .tc := ⟨.hbm, 288, rfl⟩
abbrev main_call6_v2 : Ref sig .tc := ⟨.hbm, 289, rfl⟩
abbrev main_call6_v3 : Ref sig .tc := ⟨.hbm, 290, rfl⟩
abbrev main_call6_v4 : Ref sig .tc := ⟨.hbm, 291, rfl⟩
abbrev main_call6_c_1 : Ref sig .tc := ⟨.hbm, 292, rfl⟩
abbrev main_call6_c_2 : Ref sig .tc := ⟨.hbm, 293, rfl⟩
abbrev main_call6_v5 : Ref sig .tc := ⟨.hbm, 294, rfl⟩
abbrev main_call6_v6 : Ref sig .tc := ⟨.hbm, 295, rfl⟩
abbrev main_call6_v7 : Ref sig .tc := ⟨.hbm, 296, rfl⟩
abbrev main_call6_v8 : Ref sig .tc := ⟨.hbm, 297, rfl⟩
abbrev main_call6_v9 : Ref sig .tc := ⟨.hbm, 298, rfl⟩
abbrev main_call6_v10 : Ref sig .tc := ⟨.hbm, 299, rfl⟩
abbrev main_call6_c_3 : Ref sig .tc := ⟨.hbm, 300, rfl⟩
abbrev main_call6_v11 : Ref sig .tc := ⟨.hbm, 301, rfl⟩
abbrev main_call6_v12 : Ref sig .tc := ⟨.hbm, 302, rfl⟩
abbrev main_call6_v13 : Ref sig .tc := ⟨.hbm, 303, rfl⟩
abbrev main_call6_cst : Ref sig .tc := ⟨.hbm, 304, rfl⟩
abbrev main_call6_v14 : Ref sig .tc := ⟨.hbm, 305, rfl⟩
abbrev main_v144 : Ref sig .tc := ⟨.hbm, 306, rfl⟩
abbrev main_v145 : Ref sig .tc := ⟨.hbm, 307, rfl⟩
abbrev main_v146 : Ref sig .tc := ⟨.hbm, 308, rfl⟩
abbrev main_v147 : Ref sig .tc := ⟨.hbm, 309, rfl⟩
abbrev main_cst_34 : Ref sig .tc := ⟨.hbm, 310, rfl⟩
abbrev main_v148 : Ref sig .tc := ⟨.hbm, 311, rfl⟩
abbrev main_v149 : Ref sig .tc := ⟨.hbm, 312, rfl⟩
abbrev main_v150 : Ref sig .tc := ⟨.hbm, 313, rfl⟩
abbrev main_v151 : Ref sig .tc := ⟨.hbm, 314, rfl⟩
abbrev main_v152 : Ref sig .tc := ⟨.hbm, 315, rfl⟩
abbrev main_v153 : Ref sig .tc := ⟨.hbm, 316, rfl⟩
abbrev main_v154 : Ref sig .tc := ⟨.hbm, 317, rfl⟩
abbrev main_v155 : Ref sig .tc := ⟨.hbm, 318, rfl⟩
abbrev main_v156 : Ref sig .tc := ⟨.hbm, 319, rfl⟩
abbrev main_v157 : Ref sig .tc := ⟨.hbm, 320, rfl⟩
abbrev main_v158 : Ref sig .tc := ⟨.hbm, 321, rfl⟩
abbrev main_cst_35 : Ref sig .tc := ⟨.hbm, 322, rfl⟩
abbrev main_v159 : Ref sig .tc := ⟨.hbm, 323, rfl⟩
abbrev main_v160 : Ref sig .tc := ⟨.hbm, 324, rfl⟩
abbrev main_v161 : Ref sig .tc := ⟨.hbm, 325, rfl⟩
abbrev main_v162 : Ref sig .tc := ⟨.hbm, 326, rfl⟩
abbrev main_v163 : Ref sig .tc := ⟨.hbm, 327, rfl⟩
abbrev main_v164 : Ref sig .tc := ⟨.hbm, 328, rfl⟩

abbrev nD : Nat := 1
abbrev τ : Topo := Topo.v7x

variable {F : FTy → Type} [FloatOps F]
-- ==== Proof.CallOne.lean ====
/- The first call: its body at each grid point, and the proof data of its pipeline at any contents of the arrays. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the first call at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := k0_cond1 i = 1#1
theorem hcond0_0 : ∀ t : Fin cfg0.N, cond0_0 (grid0.coords t) ↔ t.val % 2 = 0 :=
  (fun t => by
    have ht : t.val < 2 := Nat.lt_of_lt_of_eq t.isLt N_0
    have e0 : (grid0.coords t 0).val = t.val / 1 % 2 := Pipeline.Grid.coords_val t 0 (by decide) rfl
    simp only [cond0_0, k0_cond1, e0]
    word_cmp
   : ∀ t : Fin grid0.N, cond0_0 (grid0.coords t) ↔ t.val % 2 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
def freshTab0_12 : ℕ → Bool
  | 0 => true
  | n + 1 => (0x2 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
theorem liveAt0_12_A : ∀ t : Fin cfg0.N, cond0_0 (grid0.coords t) → cfg0.idle 12 (grid0.coords t) = false := by decide +kernel
theorem idleAt0_12_B : ∀ t : Fin cfg0.N, ¬cond0_0 (grid0.coords t) → cfg0.idle 12 (grid0.coords t) = true ∧ (cfg0.win 12).flush t = true := by decide +kernel
theorem notFresh0_12_B : ∀ t : Fin cfg0.N, ¬cond0_0 (grid0.coords t) → cfg0.fresh 12 t.val = false := by
  intro t; rw [fresh0_12_eq t]; revert t; decide +kernel
def freshTab0_13 : ℕ → Bool
  | 0 => true
  | n + 1 => (0x2 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
theorem liveAt0_13_A : ∀ t : Fin cfg0.N, cond0_0 (grid0.coords t) → cfg0.idle 13 (grid0.coords t) = false := by decide +kernel
theorem idleAt0_13_B : ∀ t : Fin cfg0.N, ¬cond0_0 (grid0.coords t) → cfg0.idle 13 (grid0.coords t) = true ∧ (cfg0.win 13).flush t = true := by decide +kernel
theorem notFresh0_13_B : ∀ t : Fin cfg0.N, ¬cond0_0 (grid0.coords t) → cfg0.fresh 13 t.val = false := by
  intro t; rw [fresh0_13_eq t]; revert t; decide +kernel
def freshTab0_14 : ℕ → Bool
  | 0 => true
  | n + 1 => (0x2 : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
theorem liveAt0_14_A : ∀ t : Fin cfg0.N, cond0_0 (grid0.coords t) → cfg0.idle 14 (grid0.coords t) = false := by decide +kernel
theorem idleAt0_14_B : ∀ t : Fin cfg0.N, ¬cond0_0 (grid0.coords t) → cfg0.idle 14 (grid0.coords t) = true ∧ (cfg0.win 14).flush t = true := by decide +kernel
theorem notFresh0_14_B : ∀ t : Fin cfg0.N, ¬cond0_0 (grid0.coords t) → cfg0.fresh 14 t.val = false := by
  intro t; rw [fresh0_14_eq t]; revert t; decide +kernel

abbrev VO0_11 : View sig .tc .vmem S1x1024x1024 .bf16 := (Memref.whole cc0_stg11_0 : Memref sig .tc .vmem S1x1024x1024 .bf16).view
abbrev VO0_12 : View sig .tc .vmem S2048x64 .bf16 := (Memref.whole cc0_stg12_0 : Memref sig .tc .vmem S2048x64 .bf16).view
abbrev VO0_13 : View sig .tc .vmem S2048x64 .bf16 := (Memref.whole cc0_stg13_0 : Memref sig .tc .vmem S2048x64 .bf16).view
abbrev VO0_14 : View sig .tc .vmem S1x128 .f32 := (Memref.whole cc0_stg14_0 : Memref sig .tc .vmem S1x128 .f32).view
abbrev ms0_0 (t : Fin cfg0.N) : Memref sig .tc .vmem S1x8x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x64 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2048x64 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128 .f32 := win0_14.stage (cfg0.slots t 14)
abbrev hs0_14 (t : Fin cfg0.N) : (ms0_14 t).IsWhole := hstage0_14 ((cfg0.slots t 14).cast nbuf0_14)
abbrev scM0_0 : Memref sig .tc .vmem S256x1024 .f32 := Memref.whole cc0_scratch0

/-- The buffers between the windows, the scratch buffer owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg12_1), ((c : Thread nD τ).loc cc1_stg12_1) ↦{fullShare} f)) ∗ (∃ r, prngReg c r)) := by
  unfold Pipeline.ΦA; rw [scopedRest0_eq]; simp only [scM0_0, owns_whole]; try rfl

set_option maxHeartbeats 1000000 in
/-- The first call's body at its first grid point: the pieces its stores leave in each output and in the scratch buffer, with the triple that says so. -/
noncomputable def kernelRun0_A (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) :
    Σ' (L11 : List (View.Piece (Elt F) S1x1024x1024 .bf16)), Σ' (L12 : List (View.Piece (Elt F) S2048x64 .bf16)), Σ' (L13 : List (View.Piece (Elt F) S2048x64 .bf16)), Σ' (L14 : List (View.Piece (Elt F) S1x128 .f32)), { LT0 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LT0)) -∗ K ⟨⟩))
          ⊢ wp frame (wpE (defs₀ (F := F)) Variants.none c none) E (cc0__pro_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__pro_body_eq_skeleton]; unfold cc0__pro_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    iexists _; iexact HS0

theorem cover0_A_11 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) (y : S1x1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).1 S1x1024x1024.size (by sl_kernel_rfl) y

def out0_A_11 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) : Vec F S1x1024x1024 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).1)

theorem cover0_A_12 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) (y : S2048x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.1 S2048x64.size (by sl_kernel_rfl) y

def out0_A_12 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) : Vec F S2048x64 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.1)

theorem cover0_A_13 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) (y : S2048x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.1 S2048x64.size (by sl_kernel_rfl) y

def out0_A_13 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) : Vec F S2048x64 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.1)

theorem cover0_A_14 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.2.1 S1x64.size (by sl_kernel_rfl) y

def out0_A_14 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) : Vec F S1x128 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.2.1)

set_option maxHeartbeats 1000000 in
/-- The first call's body at its second grid point, where only the table of sampled values is stored. -/
noncomputable def kernelRun0_B (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : ¬cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) (xo12 : Vec F S2048x64 .bf16) (xo13 : Vec F S2048x64 .bf16) (xo14 : Vec F S1x128 .f32) :
    Σ' (L11 : List (View.Piece (Elt F) S1x1024x1024 .bf16)), Σ' (L12 : List (View.Piece (Elt F) S2048x64 .bf16)), Σ' (L13 : List (View.Piece (Elt F) S2048x64 .bf16)), Σ' (L14 : List (View.Piece (Elt F) S1x128 .f32)), { LT0 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xo12 ∗ owns (c : Thread nD τ) arg14 fullShare xo13 ∗ owns (c : Thread nD τ) arg15 fullShare xo14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ owns (c : Thread nD τ) arg13 fullShare xo12 ∗ owns (c : Thread nD τ) arg14 fullShare xo13 ∗ owns (c : Thread nD τ) arg15 fullShare xo14 ∗ (∃ f, arg16.view.loc (c : Thread nD τ) ↦[arg16.view.set]{fullShare} arg16.view.writes (Elt F) f LT0)) -∗ K ⟨⟩))
          ⊢ wp frame (wpE (defs₀ (F := F)) Variants.none c none) E (cc0__pro_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], [], ?_, fun E K => ?run⟩
  case run =>
    simp only [cc0__pro_body_eq_skeleton]; unfold cc0__pro_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact HS0

theorem cover0_B_11 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : ¬cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) (xo12 : Vec F S2048x64 .bf16) (xo13 : Vec F S2048x64 .bf16) (xo14 : Vec F S1x128 .f32) (y : S1x1024x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo12 xo13 xo14).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo12 xo13 xo14).1 S1x1024x1024.size (by sl_kernel_rfl) y

def out0_B_11 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : ¬cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) (xo12 : Vec F S2048x64 .bf16) (xo13 : Vec F S2048x64 .bf16) (xo14 : Vec F S1x128 .f32) : Vec F S1x1024x1024 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo12 xo13 xo14).1)

def out0_B_12 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : ¬cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) (xo12 : Vec F S2048x64 .bf16) (xo13 : Vec F S2048x64 .bf16) (xo14 : Vec F S1x128 .f32) : Vec F S2048x64 .bf16 := xo12

def out0_B_13 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : ¬cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) (xo12 : Vec F S2048x64 .bf16) (xo13 : Vec F S2048x64 .bf16) (xo14 : Vec F S1x128 .f32) : Vec F S2048x64 .bf16 := xo13

def out0_B_14 (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole) (hc0 : ¬cond0_0 i)
    (x0 : Vec F S1x8x1024 .f32) (x1 : Vec F S1x8x1024 .f32) (x2 : Vec F S2x1024 .f32) (x3 : Vec F S1x1024 .f32) (x4 : Vec F S1x1024 .f32) (x5 : Vec F S1024x1024 .f32) (x6 : Vec F S1024x1024 .f32) (x7 : Vec F S1024x256 .f32) (x8 : Vec F S2048x1024 .f32) (x9 : Vec F S1024x64 .f32) (x10 : Vec F S1024x64 .f32) (xo12 : Vec F S2048x64 .bf16) (xo13 : Vec F S2048x64 .bf16) (xo14 : Vec F S1x128 .f32) : Vec F S1x128 .f32 := xo14

def outsAt0 (c : Dev nD) : (n : ℕ) → n < cfg0.N → Vec F S1x1024x1024 .bf16 × Vec F S2048x64 .bf16 × Vec F S2048x64 .bf16 × Vec F S1x128 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩))
  | n + 1, hn =>
    if h0 : (n + 1) % 2 = 0 then
      (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩))
    else
      (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 c n (Nat.lt_of_succ_lt hn)).2.1 (outsAt0 c n (Nat.lt_of_succ_lt hn)).2.2.1 (outsAt0 c n (Nat.lt_of_succ_lt hn)).2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 c n (Nat.lt_of_succ_lt hn)).2.1 (outsAt0 c n (Nat.lt_of_succ_lt hn)).2.2.1 (outsAt0 c n (Nat.lt_of_succ_lt hn)).2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 c n (Nat.lt_of_succ_lt hn)).2.1 (outsAt0 c n (Nat.lt_of_succ_lt hn)).2.2.1 (outsAt0 c n (Nat.lt_of_succ_lt hn)).2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 c n (Nat.lt_of_succ_lt hn)).2.1 (outsAt0 c n (Nat.lt_of_succ_lt hn)).2.2.1 (outsAt0 c n (Nat.lt_of_succ_lt hn)).2.2.2)

/-- At the first point the outputs are what that point stores. -/
theorem outsAt0_A (c : Dev nD) (t : Fin cfg0.N) (h0 : t.val % 2 = 0) :
    outsAt0 V c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)) := by
  obtain ⟨n, hn⟩ := t
  cases n with
  | zero => exact rfl
  | succ n => exact (dif_pos h0).trans rfl

/-- At the second point the three small outputs are carried over from the first. -/
theorem outsAt0_B (c : Dev nD) (t : Fin cfg0.N) (h0 : ¬t.val % 2 = 0) :
    outsAt0 V c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The proof data of the first call: each input ends as its block, each output as the body leaves it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (outsAt0 V c t.val t.isLt).1
    | ⟨12, _⟩ => (outsAt0 V c t.val t.isLt).2.1
    | ⟨13, _⟩ => (outsAt0 V c t.val t.isLt).2.2.1
    | ⟨14, _⟩ => (outsAt0 V c t.val t.isLt).2.2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = (outsAt0 V c t.val t.isLt).1 := by dsimp only [dat0]
theorem after0_12 (c : Dev nD) (t : Fin cfg0.N) : (dat0 V c).after 12 t = (outsAt0 V c t.val t.isLt).2.1 := by dsimp only [dat0]
theorem after0_13 (c : Dev nD) (t : Fin cfg0.N) : (dat0 V c).after 13 t = (outsAt0 V c t.val t.isLt).2.2.1 := by dsimp only [dat0]
theorem after0_14 (c : Dev nD) (t : Fin cfg0.N) : (dat0 V c).after 14 t = (outsAt0 V c t.val t.isLt).2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

theorem hcarry0_12 (c : Dev nD) : ∀ (t : Fin cfg0.N) (_ : t.val ≠ 0), cfg0.idle 12 (grid0.coords t) = true → cfg0.fresh 12 t.val = false →
    (dat0 V c).after 12 t = (dat0 V c).after 12 ⟨t.val - 1, by omega⟩ := by
  intro t _ hi _
  have hN : t.val < 2 := lt_of_lt_of_eq t.isLt (show cfg0.N = 2 from N_0)
  rw [after0_12, after0_12]
  by_cases h0 : t.val % 2 = 0
  · rw [liveAt0_12_A t ((hcond0_0 t).mpr h0)] at hi
    exact absurd hi Bool.false_ne_true
  · rw [outsAt0_B V c t h0]
    exact rfl

theorem hcarry0_13 (c : Dev nD) : ∀ (t : Fin cfg0.N) (_ : t.val ≠ 0), cfg0.idle 13 (grid0.coords t) = true → cfg0.fresh 13 t.val = false →
    (dat0 V c).after 13 t = (dat0 V c).after 13 ⟨t.val - 1, by omega⟩ := by
  intro t _ hi _
  have hN : t.val < 2 := lt_of_lt_of_eq t.isLt (show cfg0.N = 2 from N_0)
  rw [after0_13, after0_13]
  by_cases h0 : t.val % 2 = 0
  · rw [liveAt0_13_A t ((hcond0_0 t).mpr h0)] at hi
    exact absurd hi Bool.false_ne_true
  · rw [outsAt0_B V c t h0]
    exact rfl

theorem hcarry0_14 (c : Dev nD) : ∀ (t : Fin cfg0.N) (_ : t.val ≠ 0), cfg0.idle 14 (grid0.coords t) = true → cfg0.fresh 14 t.val = false →
    (dat0 V c).after 14 t = (dat0 V c).after 14 ⟨t.val - 1, by omega⟩ := by
  intro t _ hi _
  have hN : t.val < 2 := lt_of_lt_of_eq t.isLt (show cfg0.N = 2 from N_0)
  rw [after0_14, after0_14]
  by_cases h0 : t.val % 2 = 0
  · rw [liveAt0_14_A t ((hcond0_0 t).mpr h0)] at hi
    exact absurd hi Bool.false_ne_true
  · rw [outsAt0_B V c t h0]
    exact rfl
theorem before0_12_B (c : Dev nD) (t : Fin cfg0.N) (h0 : ¬t.val % 2 = 0) (d) :
    (dat0 V c).before 12 t d = (outsAt0 V c (t.val - 1) (Nat.lt_of_le_of_lt (Nat.sub_le _ _) t.isLt)).2.1 := by
  rw [Dat.before_out_traj _ 12 rfl (fun _ _ => rfl) (hcarry0_12 V c) t.val t rfl d,
    if_neg (by rw [notFresh0_12_B t (fun h => h0 ((hcond0_0 t).mp h))]; exact Bool.false_ne_true)]
  dsimp only [dat0]
theorem before0_13_B (c : Dev nD) (t : Fin cfg0.N) (h0 : ¬t.val % 2 = 0) (d) :
    (dat0 V c).before 13 t d = (outsAt0 V c (t.val - 1) (Nat.lt_of_le_of_lt (Nat.sub_le _ _) t.isLt)).2.2.1 := by
  rw [Dat.before_out_traj _ 13 rfl (fun _ _ => rfl) (hcarry0_13 V c) t.val t rfl d,
    if_neg (by rw [notFresh0_13_B t (fun h => h0 ((hcond0_0 t).mp h))]; exact Bool.false_ne_true)]
  dsimp only [dat0]
theorem before0_14_B (c : Dev nD) (t : Fin cfg0.N) (h0 : ¬t.val % 2 = 0) (d) :
    (dat0 V c).before 14 t d = (outsAt0 V c (t.val - 1) (Nat.lt_of_le_of_lt (Nat.sub_le _ _) t.isLt)).2.2.2 := by
  rw [Dat.before_out_traj _ 14 rfl (fun _ _ => rfl) (hcarry0_14 V c) t.val t rfl d,
    if_neg (by rw [notFresh0_14_B t (fun h => h0 ((hcond0_0 t).mp h))]; exact Bool.false_ne_true)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t)

set_option maxHeartbeats 3200000 in
/-- The first call's body meets its obligation at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl]
  rw [show (dat0 V c).Φ t.castSucc = Pipeline.ΦA spec0 c from rfl, PhiA0_eq]
  have hN : t.val < 2 := lt_of_lt_of_eq t.isLt (show cfg0.N = 2 from N_0)
  by_cases h0 : t.val % 2 = 0
  · rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [show (dat0 V c).leavesExact 7 t = owns (c : Thread nD τ) (ms0_7 t) fullShare ((dat0 V c).after 7 t) from by
      unfold Dat.leavesExact; rw [liveAt0_7 t], after0_7]
    rw [show (dat0 V c).leavesExact 8 t = owns (c : Thread nD τ) (ms0_8 t) fullShare ((dat0 V c).after 8 t) from by
      unfold Dat.leavesExact; rw [liveAt0_8 t], after0_8]
    rw [show (dat0 V c).leavesExact 9 t = owns (c : Thread nD τ) (ms0_9 t) fullShare ((dat0 V c).after 9 t) from by
      unfold Dat.leavesExact; rw [liveAt0_9 t], after0_9]
    rw [show (dat0 V c).leavesExact 10 t = owns (c : Thread nD τ) (ms0_10 t) fullShare ((dat0 V c).after 10 t) from by
      unfold Dat.leavesExact; rw [liveAt0_10 t], after0_10]
    rw [show (dat0 V c).leavesExact 11 t = owns (c : Thread nD τ) (ms0_11 t) fullShare ((dat0 V c).after 11 t) from by
      unfold Dat.leavesExact; rw [liveAt0_11 t], after0_11]
    rw [show (dat0 V c).leavesExact 12 t = owns (c : Thread nD τ) (ms0_12 t) fullShare ((dat0 V c).after 12 t) from by
      unfold Dat.leavesExact; rw [liveAt0_12_A t ((hcond0_0 t).mpr h0)], after0_12]
    rw [show (dat0 V c).leavesExact 13 t = owns (c : Thread nD τ) (ms0_13 t) fullShare ((dat0 V c).after 13 t) from by
      unfold Dat.leavesExact; rw [liveAt0_13_A t ((hcond0_0 t).mpr h0)], after0_13]
    rw [show (dat0 V c).leavesExact 14 t = owns (c : Thread nD τ) (ms0_14 t) fullShare ((dat0 V c).after 14 t) from by
      unfold Dat.leavesExact; rw [liveAt0_14_A t ((hcond0_0 t).mpr h0)], after0_14]
    rw [outsAt0_A V c t h0]
    unfold out0_A_11 out0_A_12 out0_A_13 out0_A_14; (try dsimp only)
    iintro ⟨⟨⟨HS0, HR1, HR2, HR3, HR4, HR5, HR6, HR7, HR8, HR9, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    iintro ⟨H0, H1, H2, H3, H4, H5, H6, H7, H8, H9, H10, ⟨%e11, H11⟩, ⟨%e12, H12⟩, ⟨%e13, H13⟩, ⟨%e14, H14⟩, ⟨%fT0, HS0⟩⟩
    isplitl [HS0 HR1 HR2 HR3 HR4 HR5 HR6 HR7 HR8 HR9 HR10 HR11 HR12 HR13 HR14 HR15 HR16 HR17 Hg]
    · isplitl [HS0 HR1 HR2 HR3 HR4 HR5 HR6 HR7 HR8 HR9 HR10 HR11 HR12 HR13 HR14 HR15 HR16 HR17]
      · isplitl [HS0]
        · iexists _; unfold owns; iexists _; isplitr
          swap; · iexact HS0
          ipureintro; rfl
        isplitl [HR1]
        · iexact HR1
        isplitl [HR2]
        · iexact HR2
        isplitl [HR3]
        · iexact HR3
        isplitl [HR4]
        · iexact HR4
        isplitl [HR5]
        · iexact HR5
        isplitl [HR6]
        · iexact HR6
        isplitl [HR7]
        · iexact HR7
        isplitl [HR8]
        · iexact HR8
        isplitl [HR9]
        · iexact HR9
        isplitl [HR10]
        · iexact HR10
        isplitl [HR11]
        · iexact HR11
        isplitl [HR12]
        · iexact HR12
        isplitl [HR13]
        · iexact HR13
        isplitl [HR14]
        · iexact HR14
        isplitl [HR15]
        · iexact HR15
        isplitl [HR16]
        · iexact HR16
        iexact HR17
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _)
  · rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [show (dat0 V c).leavesExact 7 t = owns (c : Thread nD τ) (ms0_7 t) fullShare ((dat0 V c).after 7 t) from by
      unfold Dat.leavesExact; rw [liveAt0_7 t], after0_7]
    rw [show (dat0 V c).leavesExact 8 t = owns (c : Thread nD τ) (ms0_8 t) fullShare ((dat0 V c).after 8 t) from by
      unfold Dat.leavesExact; rw [liveAt0_8 t], after0_8]
    rw [show (dat0 V c).leavesExact 9 t = owns (c : Thread nD τ) (ms0_9 t) fullShare ((dat0 V c).after 9 t) from by
      unfold Dat.leavesExact; rw [liveAt0_9 t], after0_9]
    rw [show (dat0 V c).leavesExact 10 t = owns (c : Thread nD τ) (ms0_10 t) fullShare ((dat0 V c).after 10 t) from by
      unfold Dat.leavesExact; rw [liveAt0_10 t], after0_10]
    rw [show (dat0 V c).leavesExact 11 t = owns (c : Thread nD τ) (ms0_11 t) fullShare ((dat0 V c).after 11 t) from by
      unfold Dat.leavesExact; rw [liveAt0_11 t], after0_11]
    rw [show (dat0 V c).leavesExact 12 t = owns (c : Thread nD τ) (ms0_12 t) fullShare ((dat0 V c).after 12 t) from by
      unfold Dat.leavesExact; rw [(idleAt0_12_B t (fun h => h0 ((hcond0_0 t).mp h))).1, (idleAt0_12_B t (fun h => h0 ((hcond0_0 t).mp h))).2], after0_12]
    rw [show (dat0 V c).leavesExact 13 t = owns (c : Thread nD τ) (ms0_13 t) fullShare ((dat0 V c).after 13 t) from by
      unfold Dat.leavesExact; rw [(idleAt0_13_B t (fun h => h0 ((hcond0_0 t).mp h))).1, (idleAt0_13_B t (fun h => h0 ((hcond0_0 t).mp h))).2], after0_13]
    rw [show (dat0 V c).leavesExact 14 t = owns (c : Thread nD τ) (ms0_14 t) fullShare ((dat0 V c).after 14 t) from by
      unfold Dat.leavesExact; rw [(idleAt0_14_B t (fun h => h0 ((hcond0_0 t).mp h))).1, (idleAt0_14_B t (fun h => h0 ((hcond0_0 t).mp h))).2], after0_14]
    rw [outsAt0_B V c t h0]
    simp only [before0_12_B V c t h0, before0_13_B V c t h0, before0_14_B V c t h0]
    unfold out0_B_11 out0_B_12 out0_B_13 out0_B_14; (try dsimp only)
    iintro ⟨⟨⟨HS0, HR1, HR2, HR3, HR4, HR5, HR6, HR7, HR8, HR9, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [HS0]; · iexact HS0
    iintro ⟨H0, H1, H2, H3, H4, H5, H6, H7, H8, H9, H10, ⟨%e11, H11⟩, H12, H13, H14, ⟨%fT0, HS0⟩⟩
    isplitl [HS0 HR1 HR2 HR3 HR4 HR5 HR6 HR7 HR8 HR9 HR10 HR11 HR12 HR13 HR14 HR15 HR16 HR17 Hg]
    · isplitl [HS0 HR1 HR2 HR3 HR4 HR5 HR6 HR7 HR8 HR9 HR10 HR11 HR12 HR13 HR14 HR15 HR16 HR17]
      · isplitl [HS0]
        · iexists _; unfold owns; iexists _; isplitr
          swap; · iexact HS0
          ipureintro; rfl
        isplitl [HR1]
        · iexact HR1
        isplitl [HR2]
        · iexact HR2
        isplitl [HR3]
        · iexact HR3
        isplitl [HR4]
        · iexact HR4
        isplitl [HR5]
        · iexact HR5
        isplitl [HR6]
        · iexact HR6
        isplitl [HR7]
        · iexact HR7
        isplitl [HR8]
        · iexact HR8
        isplitl [HR9]
        · iexact HR9
        isplitl [HR10]
        · iexact HR10
        isplitl [HR11]
        · iexact HR11
        isplitl [HR12]
        · iexact HR12
        isplitl [HR13]
        · iexact HR13
        isplitl [HR14]
        · iexact HR14
        isplitl [HR15]
        · iexact HR15
        isplitl [HR16]
        · iexact HR16
        iexact HR17
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _)
    isplitl [H12]; · iexact H12
    isplitl [H13]; · iexact H13
    iexact H14

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.CallTwo.lean ====
/- The second call: its body at any grid point, and the proof data of its pipeline at any contents of the arrays. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the second call at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x1024x1024 := Rect.unit (s := S1x1024x1024) ![0, 0, 0] S1x1024x1024.size inb_S1x1024x1024_S1x1024x1024_0_0_0
abbrev r1_1 : Rect S2x1024 := Rect.unit (s := S2x1024) ![0, 0] S1x1024.size inb_S2x1024_S1x1024_0_0
abbrev r1_2 : Rect S2x1024 := Rect.unit (s := S2x1024) ![1, 0] S1x1024.size inb_S2x1024_S1x1024_1_0
abbrev r1_3 : Rect S2048x64 := Rect.unit (s := S2048x64) ![0, 0] S1024x64.size inb_S2048x64_S1024x64_0_0
abbrev r1_4 : Rect S2048x64 := Rect.unit (s := S2048x64) ![1024, 0] S1024x64.size inb_S2048x64_S1024x64_1024_0
abbrev r1_5 : Rect S1x128 := Rect.unit (s := S1x128) ![0, 0] S1x64.size inb_S1x128_S1x64_0_0
abbrev r1_6 : Rect S1x128 := Rect.unit (s := S1x128) ![0, 64] S1x64.size inb_S1x128_S1x64_0_64
abbrev r1_7 : Rect S64x64 := Rect.unit (s := S64x64) ![0, 0] S64x64.size inb_S64x64_S64x64_0_0
abbrev r1_8 : Rect S1x64 := Rect.unit (s := S1x64) ![0, 0] S1x64.size inb_S1x64_S1x64_0_0
abbrev r1_9 : Rect S64x1024 := Rect.unit (s := S64x1024) ![0, 0] S64x1024.size inb_S64x1024_S64x1024_0_0
abbrev r1_10 : Rect S1x1024 := Rect.unit (s := S1x1024) ![0, 0] S1x1024.size inb_S1x1024_S1x1024_0_0

def k1_pay14 (x0 : Vec F S1x1024x1024 .f32) (x1 : Vec F S1x1024x1024 .f32) (x2 : Vec F S2x1024 .f32) (x3 : Vec F S2048x64 .bf16) (x4 : Vec F S2048x64 .bf16) (x5 : Vec F S1x128 .f32) (x6 : Vec F S1x128 .f32) (x7 : Vec F S1x64 .f32) (x8 : Vec F S64x64 .f32) (x9 : Vec F S64x1024 .f32) (x10 : Vec F S1x1024 .f32) (x11 : Vec F S1x1024x1024 .bf16) : FVec F S1024x1024 .f32 :=
  k1_pay2 (View.ld x1 r1_0) (View.ld x2 r1_1)
def k1_pay15 (x0 : Vec F S1x1024x1024 .f32) (x1 : Vec F S1x1024x1024 .f32) (x2 : Vec F S2x1024 .f32) (x3 : Vec F S2048x64 .bf16) (x4 : Vec F S2048x64 .bf16) (x5 : Vec F S1x128 .f32) (x6 : Vec F S1x128 .f32) (x7 : Vec F S1x64 .f32) (x8 : Vec F S64x64 .f32) (x9 : Vec F S64x1024 .f32) (x10 : Vec F S1x1024 .f32) (x11 : Vec F S1x1024x1024 .bf16) : FVec F S1024x1024 .f32 :=
  k1_pay3 (View.ld x0 r1_0) (View.ld x2 r1_2)
def k1_pay16 (x0 : Vec F S1x1024x1024 .f32) (x1 : Vec F S1x1024x1024 .f32) (x2 : Vec F S2x1024 .f32) (x3 : Vec F S2048x64 .bf16) (x4 : Vec F S2048x64 .bf16) (x5 : Vec F S1x128 .f32) (x6 : Vec F S1x128 .f32) (x7 : Vec F S1x64 .f32) (x8 : Vec F S64x64 .f32) (x9 : Vec F S64x1024 .f32) (x10 : Vec F S1x1024 .f32) (x11 : Vec F S1x1024x1024 .bf16) : FVec F S1024x1 .f32 :=
  k1_pay4 (View.ld x1 r1_0) (View.ld x2 r1_1) (View.ld x0 r1_0) (View.ld x2 r1_2)
def k1_pay17 (x0 : Vec F S1x1024x1024 .f32) (x1 : Vec F S1x1024x1024 .f32) (x2 : Vec F S2x1024 .f32) (x3 : Vec F S2048x64 .bf16) (x4 : Vec F S2048x64 .bf16) (x5 : Vec F S1x128 .f32) (x6 : Vec F S1x128 .f32) (x7 : Vec F S1x64 .f32) (x8 : Vec F S64x64 .f32) (x9 : Vec F S64x1024 .f32) (x10 : Vec F S1x1024 .f32) (x11 : Vec F S1x1024x1024 .bf16) : FVec F S1024x1 .f32 :=
  k1_pay5 (View.ld x1 r1_0) (View.ld x2 r1_1) (View.ld x0 r1_0) (View.ld x2 r1_2)
def k1_pay18 (x0 : Vec F S1x1024x1024 .f32) (x1 : Vec F S1x1024x1024 .f32) (x2 : Vec F S2x1024 .f32) (x3 : Vec F S2048x64 .bf16) (x4 : Vec F S2048x64 .bf16) (x5 : Vec F S1x128 .f32) (x6 : Vec F S1x128 .f32) (x7 : Vec F S1x64 .f32) (x8 : Vec F S64x64 .f32) (x9 : Vec F S64x1024 .f32) (x10 : Vec F S1x1024 .f32) (x11 : Vec F S1x1024x1024 .bf16) : FVec F S1024x1 .f32 :=
  k1_pay6 (F := F)

/-- What the second call's body leaves in its output block, from the blocks of its inputs. -/
def out1_12 (x0 : Vec F S1x1024x1024 .f32) (x1 : Vec F S1x1024x1024 .f32) (x2 : Vec F S2x1024 .f32) (x3 : Vec F S2048x64 .bf16) (x4 : Vec F S2048x64 .bf16) (x5 : Vec F S1x128 .f32) (x6 : Vec F S1x128 .f32) (x7 : Vec F S1x64 .f32) (x8 : Vec F S64x64 .f32) (x9 : Vec F S64x1024 .f32) (x10 : Vec F S1x1024 .f32) (x11 : Vec F S1x1024x1024 .bf16) : Vec F S1x1024x1024 .f32 :=
  View.canon [⟨r1_0, k1_pay1 (k1_pay13 (k1_pay11 (k1_pay14 x0 x1 x2 x3 x4 x5 x6 x7 x8 x9 x10 x11) (k1_pay15 x0 x1 x2 x3 x4 x5 x6 x7 x8 x9 x10 x11) (k1_pay16 x0 x1 x2 x3 x4 x5 x6 x7 x8 x9 x10 x11) (k1_pay17 x0 x1 x2 x3 x4 x5 x6 x7 x8 x9 x10 x11) (k1_pay18 x0 x1 x2 x3 x4 x5 x6 x7 x8 x9 x10 x11) (View.ld x3 r1_3) (View.ld x3 r1_4) (View.ld x5 r1_5) (View.ld x6 r1_5)) (k1_pay12 (k1_pay14 x0 x1 x2 x3 x4 x5 x6 x7 x8 x9 x10 x11) (k1_pay15 x0 x1 x2 x3 x4 x5 x6 x7 x8 x9 x10 x11) (k1_pay16 x0 x1 x2 x3 x4 x5 x6 x7 x8 x9 x10 x11) (k1_pay17 x0 x1 x2 x3 x4 x5 x6 x7 x8 x9 x10 x11) (k1_pay18 x0 x1 x2 x3 x4 x5 x6 x7 x8 x9 x10 x11) (View.ld x4 r1_3) (View.ld x4 r1_4) (View.ld x5 r1_6)) (View.ld x6 r1_6) (View.ld x8 r1_7) (View.ld x7 r1_8) (View.ld x9 r1_9) (View.ld x9 r1_9) (View.ld x10 r1_10) (View.ld x11 r1_0))⟩]

theorem cover1_12 (p0 : Vec F S1x1024x1024 .f32) (y : S1x1024x1024.Idx) :
    ∃ pc ∈ ([⟨r1_0, p0⟩] : List (View.Piece (Elt F) S1x1024x1024 .f32)), y ∈ pc.1.set :=
  View.cover_of_tiled [⟨r1_0, p0⟩] S1x1024x1024.size (by rfl) y

set_option maxHeartbeats 1000000 in
/-- The second call's body on whole buffers. -/
theorem sound_kernel1 (c : Dev nD) (E : Set ℕ) (i : grid1.Coords) (arg2 : Memref sig .tc .vmem S1x1024x1024 .f32) (harg2 : arg2.IsWhole) (arg3 : Memref sig .tc .vmem S1x1024x1024 .f32) (harg3 : arg3.IsWhole) (arg4 : Memref sig .tc .vmem S2x1024 .f32) (harg4 : arg4.IsWhole) (arg5 : Memref sig .tc .vmem S2048x64 .bf16) (harg5 : arg5.IsWhole) (arg6 : Memref sig .tc .vmem S2048x64 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S64x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x1024 .f32) (harg14 : arg14.IsWhole)
    (x0 : Vec F S1x1024x1024 .f32) (x1 : Vec F S1x1024x1024 .f32) (x2 : Vec F S2x1024 .f32) (x3 : Vec F S2048x64 .bf16) (x4 : Vec F S2048x64 .bf16) (x5 : Vec F S1x128 .f32) (x6 : Vec F S1x128 .f32) (x7 : Vec F S1x64 .f32) (x8 : Vec F S64x64 .f32) (x9 : Vec F S64x1024 .f32) (x10 : Vec F S1x1024 .f32) (x11 : Vec F S1x1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (out1_12 x0 x1 x2 x3 x4 x5 x6 x7 x8 x9 x10 x11)) -∗ K ⟨⟩))
      ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14) K := by
  simp only [cc1__main_body_eq_skeleton]; unfold cc1__main_body_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (View.read_writes_eq_canon _ _ _ (cover1_12 _)).trans ?_
  rfl

/-- The proof data of the second call: each input ends as its block, the output as `out1_12` of the inputs. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The second call's body meets its obligation at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.WholeRun.lean ====
/- The whole program: its host operations and two calls as segments, and the run from a launch to the return. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import proofs.«01_k».proof.Proof.CallOne
public import proofs.«01_k».proof.Proof.CallTwo

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

theorem hostOps0_fresh : (hostOps0 : List (HloOp τ sig (Elt F))).Forall fun op => op.fresh = ∅ := by
  simp only [List.Forall]; repeat' constructor
abbrev hostOps0_W : List (Ref sig .tc) := [main_cst, main_v0, main_cst_0, main_cst_1, main_cst_2, main_v1, main_v2, main_v3, main_v4, main_v5, main_c, main_v6, main_v7, main_c_3, main_v8, main_v9,
  main_c_4, main_v10, main_v11, main_c_5, main_v12, main_v13, main_v14, main_v15, main_v16]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v18, main_v19, main_v20]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
theorem W4_main_arg12 (c : Dev nD) : W4 m ρ c (Proc.devRef .tc main_arg12) = m ((c : Thread nD τ).loc main_arg12) :=
  W4_args m ρ c main_arg12 (by decide)
theorem W4_main_arg13 (c : Dev nD) : W4 m ρ c (Proc.devRef .tc main_arg13) = m ((c : Thread nD τ).loc main_arg13) :=
  W4_args m ρ c main_arg13 (by decide)
theorem W4_main_arg14 (c : Dev nD) : W4 m ρ c (Proc.devRef .tc main_arg14) = m ((c : Thread nD τ).loc main_arg14) :=
  W4_args m ρ c main_arg14 (by decide)
theorem W4_main_arg15 (c : Dev nD) : W4 m ρ c (Proc.devRef .tc main_arg15) = m ((c : Thread nD τ).loc main_arg15) :=
  W4_args m ρ c main_arg15 (by decide)
theorem W4_main_arg16 (c : Dev nD) : W4 m ρ c (Proc.devRef .tc main_arg16) = m ((c : Thread nD τ).loc main_arg16) :=
  W4_args m ρ c main_arg16 (by decide)
theorem W4_main_arg17 (c : Dev nD) : W4 m ρ c (Proc.devRef .tc main_arg17) = m ((c : Thread nD τ).loc main_arg17) :=
  W4_args m ρ c main_arg17 (by decide)
theorem W4_main_arg18 (c : Dev nD) : W4 m ρ c (Proc.devRef .tc main_arg18) = m ((c : Thread nD τ).loc main_arg18) :=
  W4_args m ρ c main_arg18 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its four segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every fair execution ends, the result array as the second call's write-backs leave it, the arguments as launched
    and every counter at zero. -/
theorem run : θ_run defs (onTc (τ := τ) (main (F := F))) ⟨m, fun _ => 0, ρ⟩ (fun r => (∀ c : Dev nD,
      r.2.mem ((c.tc : Thread nD τ).loc main_v21) = (dat1 (V3 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v21 (by decide))).trans (W4_arr m ρ c (12 : Fin cfg1.W)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c)⟩), funext fun g => hz g (.inr (no_unscoped g.2))⟩)

/-- Every fair execution ends, the arguments as launched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun _ h => ⟨fun c => (h.1 c).2, h.2⟩) (run m ρ)

end Cert.KernelIdeal.Gen

end
-- ==== Proof.SameProgram.lean ====
module
public import proofs.«01_k».proof.Defs
public import proofs.«01_k».proof.Proof.Gen.Kernel
public import proofs.«01_k».proof.Proof.WholeRun
@[expose] public section

/-! The program as printed and the program of the ideal claims are one text under two names, so what is shown of the
second in every float instance holds of the first on words. -/

noncomputable section
namespace Cert.Proof
open Idealize.ShloMosaic Idealize.SL.Sem
attribute [local instance] Cert.Kernel.Gen.facts Cert.KernelIdeal.Gen.facts
/-- The frame claim of the printed program, said of the text under its other name. -/
def idealFrameOnWords : Prop := ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)
theorem kernel_frame_eq : idealFrameOnWords = Cert.quiescent_Kernel := by chain_rfl
/-- The printed program ends, changes no argument and leaves every counter at zero. -/
theorem kernel_frame : Cert.quiescent_Kernel := by
  rw [← kernel_frame_eq]
  exact fun m ρ _ => Cert.KernelIdeal.Gen.quiet m ρ

end Cert.Proof
end
-- ==== Proof.Spec.lean ====
module

public import Idealize.ShloMosaic.PureOps.Ideal
public import Mathlib.Algebra.BigOperators.Fin
public import Mathlib.Tactic.Linarith
public import Mathlib.Tactic.FieldSimp
public import Mathlib.Tactic.Ring
public import Mathlib.Tactic.NormNum
public import Mathlib.Tactic.Positivity

@[expose] public section

/-! What the attention computes, on real numbers and, from the values on, on extended reals (the shift of the values' norm may be
infinite), and the identities of sums that join the two ways of computing it. -/

noncomputable section

namespace Cert.Coe

theorem coe_sum {ι : Type} (s : Finset ι) (f : ι → ℝ) : ∑ i ∈ s, (f i : EReal) = ↑(∑ i ∈ s, f i) := by
  classical
  induction s using Finset.induction with
  | empty => simp
  | insert a s ha ih => rw [Finset.sum_insert ha, Finset.sum_insert ha, ih, EReal.coe_add]

end Cert.Coe

namespace Cert.Spec

open Cert.Coe Finset Idealize.ShloMosaic

/-- The small number the two norms add to a variance. -/
def eps : ℝ := 2748779 / 274877906944

theorem eps_pos : 0 < eps := by norm_num [eps]

def mean {n : ℕ} (u : Fin n → ℝ) : ℝ := (∑ k, u k) / n
def vari {n : ℕ} (u : Fin n → ℝ) : ℝ := (∑ k, (u k - mean u) * (u k - mean u)) / n
def scale {n : ℕ} (u : Fin n → ℝ) : ℝ := (√(vari u + eps))⁻¹
def lnorm {n : ℕ} (u : Fin n → ℝ) (k : Fin n) : ℝ := (u k - mean u) * scale u

theorem vari_nonneg {n : ℕ} (u : Fin n → ℝ) : 0 ≤ vari u :=
  div_nonneg (sum_nonneg fun k _ => mul_self_nonneg _) (Nat.cast_nonneg n)

theorem vari_eps_pos {n : ℕ} (u : Fin n → ℝ) : 0 < vari u + eps := add_pos_of_nonneg_of_pos (vari_nonneg u) eps_pos

/-- The arguments: as real numbers the two frames, with non-finite entries put to zero and their embeddings added, and the weights; as extended reals
the shift of the values' norm and the offsets' bias. -/
structure Args where
  pr : Fin 2 → Fin 4096 → Fin 1024 → ℝ
  xr : Fin 2 → Fin 4096 → Fin 1024 → ℝ
  gm : Fin 1024 → ℝ
  bm : Fin 1024 → EReal
  Wq : Fin 2048 → Fin 1024 → ℝ
  Wv : Fin 1024 → Fin 1024 → ℝ
  Wd : Fin 1024 → Fin 64 → ℝ
  bd : Fin 64 → EReal
  Ww : Fin 1024 → Fin 64 → ℝ
  bw : Fin 64 → ℝ
  Wo : Fin 1024 → Fin 1024 → ℝ

namespace Args

variable (A : Args)

/-- A position's query input: the previous frame's row, then the present one's. -/
def wide (b : Fin 2) (n : Fin 4096) (k : Fin 2048) : ℝ :=
  if h : k.val < 1024 then A.pr b n ⟨k.val, h⟩ else A.xr b n ⟨k.val - 1024, by omega⟩

/-- A row of the memory: the previous frame's rows, then the present one's. -/
def memrow (b : Fin 2) (R : Fin 8192) (j : Fin 1024) : ℝ :=
  if h : R.val < 4096 then A.pr b ⟨R.val, h⟩ j else A.xr b ⟨R.val - 4096, by omega⟩ j

def Q (b : Fin 2) (n : Fin 4096) (j : Fin 1024) : ℝ := ∑ k, lnorm (A.wide b n) k * A.Wq k j
def val (b : Fin 2) (R : Fin 8192) (k : Fin 1024) : EReal := ∑ j, (↑(lnorm (A.memrow b R) j * A.gm j) + A.bm j) * (A.Wv j k : EReal)
def drr (b : Fin 2) (n : Fin 4096) (l : Fin 64) : ℝ := ∑ j, A.Q b n j * A.Wd j l
def dr (b : Fin 2) (n : Fin 4096) (l : Fin 64) : EReal := ↑(A.drr b n l) + A.bd l
def wl (b : Fin 2) (n : Fin 4096) (l : Fin 64) : ℝ := ∑ j, A.Q b n j * A.Ww j l + A.bw l

end Args

/-- Column `4 h + p`: point `p` of head `h`. -/
def col (h : Fin 16) (p : Fin 4) : Fin 64 := ⟨4 * h.val + p.val, by omega⟩
/-- The head of an inner column. -/
def head (k : Fin 1024) : Fin 16 := ⟨k.val / 64, by omega⟩
/-- Memory row `4088 + r`. -/
def rowOf (r : ℕ) : Fin 8192 := ⟨(4088 + r) % 8192, by omega⟩

/-- The softmax of `w` over the four points of a head. -/
def soft (w : Fin 64 → ℝ) (h : Fin 16) (p : Fin 4) : ℝ := Real.exp (w (col h p)) / ∑ q, Real.exp (w (col h q))

namespace Args

variable (A : Args)

def th (b : Fin 2) (n : Fin 4096) (l : Fin 64) : ℝ := (Ideal.tanh (A.dr b n l)).toReal
/-- A sampling position, from the middle of the memory. -/
def posl (b : Fin 2) (n : Fin 4096) (l : Fin 64) : ℝ := ((l.val % 4 : ℕ) - 3 / 2 : ℝ) + A.th b n l * 4
/-- The same, from memory row 4088. -/
def tpos (b : Fin 2) (n : Fin 4096) (l : Fin 64) : ℝ := A.posl b n l + 15 / 2
def lf (b : Fin 2) (n : Fin 4096) (l : Fin 64) : ℕ := ⌊A.tpos b n l⌋₊
def fr (b : Fin 2) (n : Fin 4096) (l : Fin 64) : ℝ := A.tpos b n l - A.lf b n l
/-- The value row sampled for column `l`, at inner column `k`. -/
def sample (b : Fin 2) (n : Fin 4096) (l : Fin 64) (k : Fin 1024) : EReal :=
  ↑(1 - A.fr b n l) * A.val b (rowOf (A.lf b n l)) k + ↑(A.fr b n l) * A.val b (rowOf (A.lf b n l + 1)) k
def out (b : Fin 2) (n : Fin 4096) (d : Fin 1024) : EReal :=
  ∑ k, (∑ p, ↑(soft (A.wl b n) (head k) p) * A.sample b n (col (head k) p) k) * ↑(A.Wo k d)

theorem tanh_coe_th (b : Fin 2) (n : Fin 4096) (l : Fin 64) : Ideal.tanh (A.dr b n l) = ↑(A.th b n l) := by
  unfold th
  generalize A.dr b n l = x
  induction x using EReal.rec with
  | bot => rw [Ideal.tanh_bot]; rfl
  | top => rw [Ideal.tanh_top]; rfl
  | coe r => rw [Ideal.tanh_coe]; rfl

theorem th_abs (b : Fin 2) (n : Fin 4096) (l : Fin 64) : |A.th b n l| ≤ 1 := by
  unfold th
  generalize A.dr b n l = x
  induction x using EReal.rec with
  | bot => rw [Ideal.tanh_bot]; norm_num [EReal.toReal_neg]
  | top => rw [Ideal.tanh_top]; norm_num
  | coe r => rw [Ideal.tanh_coe, EReal.toReal_coe]; exact (Real.abs_tanh_lt_one r).le

theorem tpos_bounds (b : Fin 2) (n : Fin 4096) (l : Fin 64) : 2 ≤ A.tpos b n l ∧ A.tpos b n l ≤ 13 := by
  have h := abs_le.1 (A.th_abs b n l)
  have h4 : ((l.val % 4 : ℕ) : ℝ) ≤ 3 := by exact_mod_cast (by omega : l.val % 4 ≤ 3)
  have h0 : (0 : ℝ) ≤ ((l.val % 4 : ℕ) : ℝ) := Nat.cast_nonneg _
  unfold tpos posl
  constructor <;> linarith [h.1, h.2]

theorem lf_bounds (b : Fin 2) (n : Fin 4096) (l : Fin 64) : 2 ≤ A.lf b n l ∧ A.lf b n l ≤ 13 := by
  have h := A.tpos_bounds b n l
  refine ⟨Nat.le_floor (by exact_mod_cast h.1), ?_⟩
  have := Nat.floor_le_floor h.2
  unfold lf
  rwa [show ⌊(13 : ℝ)⌋₊ = 13 by norm_num] at this

end Args

theorem sum_halves {M : Type} [AddCommMonoid M] (f : Fin 2048 → M) :
    ∑ k, f k = ∑ k : Fin 1024, f ⟨k.val, by omega⟩ + ∑ k : Fin 1024, f ⟨1024 + k.val, by omega⟩ :=
  Fin.sum_univ_add (a := 1024) (b := 1024) f

theorem sum_wide {M : Type} [AddCommMonoid M] (A : Args) (b : Fin 2) (n : Fin 4096) (g : ℝ → Fin 2048 → M) :
    ∑ k, g (A.wide b n k) k
      = ∑ k : Fin 1024, g (A.pr b n k) ⟨k.val, by omega⟩ + ∑ k : Fin 1024, g (A.xr b n k) ⟨1024 + k.val, by omega⟩ := by
  rw [sum_halves]
  simp [Args.wide]

/-- The mean of squares less the square of the mean is the variance. -/
theorem vari_eq {n : ℕ} (hn : 0 < n) (u : Fin n → ℝ) : (∑ k, u k * u k) / n - mean u * mean u = vari u := by
  have hn' : (n : ℝ) ≠ 0 := by exact_mod_cast hn.ne'
  have hs : ∑ k, u k = n * mean u := by unfold mean; field_simp
  have : ∑ k, (u k - mean u) * (u k - mean u) = ∑ k, u k * u k - n * (mean u * mean u) := by
    have : ∀ k, (u k - mean u) * (u k - mean u) = u k * u k - 2 * mean u * u k + mean u * mean u := fun k => by ring
    simp only [this, sum_add_distrib, sum_sub_distrib, ← mul_sum, hs]
    simp; ring
  unfold vari
  rw [this]; field_simp

/-- The norm of a row then two products, as the row times the product of the two, its mean taken off once. -/
theorem folded {n q : ℕ} (u : Fin n → ℝ) (W : Fin n → Fin q → ℝ) (v : Fin q → ℝ) :
    scale u * (∑ k, u k * ∑ j, W k j * v j) - scale u * mean u * ∑ k, ∑ j, W k j * v j
      = ∑ j, (∑ k, lnorm u k * W k j) * v j := by
  have h : ∀ j, (∑ k, lnorm u k * W k j) * v j = ∑ k, lnorm u k * (W k j * v j) := fun j => by
    rw [sum_mul]; exact sum_congr rfl fun k _ => by ring
  simp only [h]
  conv_rhs => rw [sum_comm]
  simp only [← mul_sum]
  rw [mul_sum, mul_sum, ← sum_sub_distrib]
  exact sum_congr rfl fun k _ => by unfold lnorm; ring

theorem sum_cols {M : Type} [AddCommMonoid M] (f : Fin 64 → M) : ∑ l, f l = ∑ h, ∑ p, f (col h p) := by
  rw [← Fintype.sum_prod_type', ← Equiv.sum_comp (finProdFinEquiv (m := 16) (n := 4))]
  exact sum_congr rfl fun x _ => congrArg f (Fin.ext (by simp [col, finProdFinEquiv]; omega))

/-- Window column `64 r + l`. -/
def wcol (r : Fin 16) (l : Fin 64) : Fin 1024 := ⟨64 * r.val + l.val, by omega⟩

theorem sum_wcols {M : Type} [AddCommMonoid M] (f : Fin 1024 → M) : ∑ c, f c = ∑ r, ∑ l, f (wcol r l) := by
  rw [← Fintype.sum_prod_type', ← Equiv.sum_comp (finProdFinEquiv (m := 16) (n := 64))]
  exact sum_congr rfl fun x _ => congrArg f (Fin.ext (by simp [wcol, finProdFinEquiv]; omega))

/-- A softmax over groups does not see a shift that is common to a group. -/
theorem soft_shift (w : Fin 64 → ℝ) (h : Fin 16) (p : Fin 4) (M : ℝ) :
    Real.exp (w (col h p) - M) / ∑ q, Real.exp (w (col h q) - M) = soft w h p := by
  unfold soft
  simp only [Real.exp_sub, ← sum_div]
  have := Real.exp_pos M
  field_simp

theorem sum_group (e : Fin 64 → ℝ) (h : Fin 16) (p : Fin 4) :
    ∑ l, e l * (if l.val / 4 = (col h p).val / 4 then 1 else 0) = ∑ q, e (col h q) := by
  rw [sum_cols]
  rw [sum_eq_single h]
  · refine sum_congr rfl fun q _ => ?_
    rw [if_pos (by simp only [col]; omega), mul_one]
  · intro h' _ hne
    apply sum_eq_zero; intro q _
    have : h'.val ≠ h.val := fun e => hne (Fin.ext e)
    rw [if_neg (by simp only [col]; omega), mul_zero]
  · simp

/-- The hat functions at the whole numbers interpolate between the two neighbours. -/
theorem hats (t : ℝ) (h0 : 2 ≤ t) (h1 : t ≤ 13) (v : ℕ → ℝ) :
    ∑ r : Fin 16, max (1 - |t - r.val|) 0 * v r.val
      = (1 - (t - ⌊t⌋₊)) * v ⌊t⌋₊ + (t - ⌊t⌋₊) * v (⌊t⌋₊ + 1) := by
  have hl := Nat.floor_le (show 0 ≤ t by linarith)
  have hu := Nat.lt_floor_add_one t
  set L := ⌊t⌋₊ with hL
  have hL13 : L ≤ 13 := by
    have : (L : ℝ) ≤ 13 := by linarith
    exact_mod_cast this
  rw [Fin.sum_univ_eq_sum_range (fun r => max (1 - |t - r|) 0 * v r) 16]
  rw [← sum_subset (s₁ := {L, L + 1}) (by intro r; simp; omega)]
  · rw [sum_pair (by omega)]
    congr 2
    · rw [abs_of_nonneg (by linarith), max_eq_left (by linarith)]
    · push_cast
      rw [abs_of_nonpos (by linarith), max_eq_left (by linarith)]; ring
  · intro r _ hr
    simp at hr
    have : r + 1 ≤ L ∨ L + 2 ≤ r := by omega
    rw [max_eq_right, zero_mul]
    rcases this with h | h
    · have : (r : ℝ) + 1 ≤ L := by exact_mod_cast h
      rw [abs_of_nonneg (by linarith)]; linarith
    · have : (L : ℝ) + 2 ≤ r := by exact_mod_cast h
      rw [abs_of_nonpos (by linarith)]; linarith

theorem mul_sum_nonneg {ι : Type} (c : ℝ) (hc : 0 ≤ c) (s : Finset ι) (f : ι → EReal) : (c : EReal) * ∑ i ∈ s, f i = ∑ i ∈ s, c * f i := by
  classical
  induction s using Finset.induction with
  | empty => simp
  | insert a s ha ih =>
    rw [sum_insert ha, sum_insert ha, EReal.left_distrib_of_nonneg_of_ne_top (EReal.coe_nonneg.2 hc) (EReal.coe_ne_top c), ih]

theorem sum_mul_nonneg {ι : Type} (s : Finset ι) (f : ι → ℝ) (hf : ∀ i, 0 ≤ f i) (I : EReal) : ∑ i ∈ s, (f i : EReal) * I = ↑(∑ i ∈ s, f i) * I := by
  classical
  induction s using Finset.induction with
  | empty => simp
  | insert a s ha ih =>
    rw [sum_insert ha, sum_insert ha, ih, EReal.coe_add,
      EReal.right_distrib_of_nonneg (EReal.coe_nonneg.2 (hf a)) (EReal.coe_nonneg.2 (sum_nonneg fun i _ => hf i))]

/-- Real everywhere, or everywhere the same infinity. -/
def Uniform {ρ : Type} (t : ρ → EReal) : Prop := (∃ f : ρ → ℝ, ∀ R, t R = f R) ∨ (∀ R, t R = ⊤) ∨ ∀ R, t R = ⊥

theorem Uniform.add {ρ : Type} {t u : ρ → EReal} (ht : Uniform t) (hu : Uniform u) : Uniform fun R => t R + u R := by
  rcases ht with ⟨f, hf⟩ | hf | hf <;> rcases hu with ⟨g, hg⟩ | hg | hg
  · exact .inl ⟨fun R => f R + g R, fun R => by dsimp only; rw [hf, hg, EReal.coe_add]⟩
  · exact .inr (.inl fun R => by dsimp only; rw [hf, hg, EReal.coe_add_top])
  · exact .inr (.inr fun R => by dsimp only; rw [hg, EReal.add_bot])
  · exact .inr (.inl fun R => by dsimp only; rw [hf, hg, EReal.top_add_coe])
  · exact .inr (.inl fun R => by dsimp only; rw [hf, hg, EReal.top_add_top])
  · exact .inr (.inr fun R => by dsimp only; rw [hg, EReal.add_bot])
  all_goals exact .inr (.inr fun R => by dsimp only; rw [hf, EReal.bot_add])

theorem Uniform.sum {ι ρ : Type} (s : Finset ι) (t : ρ → ι → EReal) (h : ∀ i, Uniform fun R => t R i) : Uniform fun R => ∑ i ∈ s, t R i := by
  classical
  induction s using Finset.induction with
  | empty => exact .inl ⟨fun _ => 0, fun R => by simp⟩
  | insert a s ha ih => simp only [sum_insert ha]; exact (h a).add ih

theorem Uniform.const {ρ : Type} (I : EReal) : Uniform fun _ : ρ => I := by
  induction I using EReal.rec with
  | bot => exact .inr (.inr fun _ => rfl)
  | top => exact .inr (.inl fun _ => rfl)
  | coe r => exact .inl ⟨fun _ => r, fun _ => rfl⟩

/-- At an inner column, the values of all memory rows are real, or they are all the same infinity. -/
theorem val_uniform (A : Args) (b : Fin 2) (k : Fin 1024) : Uniform fun R => A.val b R k := by
  refine Uniform.sum _ _ fun j => ?_
  generalize A.bm j = x
  induction x using EReal.rec with
  | bot => simp only [EReal.add_bot]; exact .const _
  | top => simp only [EReal.coe_add_top]; exact .const _
  | coe r =>
    exact .inl ⟨fun R => (lnorm (A.memrow b R) j * A.gm j + r) * A.Wv j k, fun R => by dsimp only; rw [← EReal.coe_add, ← EReal.coe_mul]⟩

theorem fr_bounds (A : Args) (b : Fin 2) (n : Fin 4096) (l : Fin 64) : 0 ≤ A.fr b n l ∧ 0 ≤ 1 - A.fr b n l := by
  have h := A.tpos_bounds b n l
  have h1 := Nat.floor_le (show 0 ≤ A.tpos b n l by linarith)
  have h2 := Nat.lt_floor_add_one (A.tpos b n l)
  unfold Args.fr Args.lf
  constructor <;> linarith

theorem soft_nonneg (w : Fin 64 → ℝ) (h : Fin 16) (p : Fin 4) : 0 ≤ soft w h p :=
  div_nonneg (Real.exp_pos _).le (sum_nonneg fun q _ => (Real.exp_pos _).le)

/-- The weight of a window column. -/
def weight (A : Args) (b : Fin 2) (n : Fin 4096) (r : Fin 16) (l : Fin 64) : ℝ :=
  soft (A.wl b n) ⟨l.val / 4, by omega⟩ ⟨l.val % 4, by omega⟩ * max (1 - |A.posl b n l - (r.val - 15 / 2)|) 0

theorem weight_nonneg (A : Args) (b : Fin 2) (n : Fin 4096) (r : Fin 16) (l : Fin 64) : 0 ≤ weight A b n r l :=
  mul_nonneg (soft_nonneg _ _ _) (le_max_right _ _)

/-- At one inner column, the sum over the window is the sum of the samples. -/
theorem core_real (A : Args) (b : Fin 2) (n : Fin 4096) (k : Fin 1024) (v : ℕ → ℝ) :
    ∑ r : Fin 16, ∑ l : Fin 64, (if l.val / 4 = k.val / 64 then weight A b n r l * v r.val else 0)
      = ∑ p, soft (A.wl b n) (head k) p
          * ((1 - A.fr b n (col (head k) p)) * v (A.lf b n (col (head k) p)) + A.fr b n (col (head k) p) * v (A.lf b n (col (head k) p) + 1)) := by
  have hw : ∀ (r : Fin 16) (l : Fin 64), weight A b n r l * v r.val = soft (A.wl b n) ⟨l.val / 4, by omega⟩ ⟨l.val % 4, by omega⟩
        * (max (1 - |A.tpos b n l - r.val|) 0 * v r.val) := fun r l => by
    rw [weight, show A.posl b n l - (r.val - 15 / 2) = A.tpos b n l - r.val by unfold Args.tpos; ring]
    ring
  simp only [hw]
  rw [sum_comm, sum_cols, sum_eq_single (head k)]
  · refine sum_congr rfl fun p _ => ?_
    have e1 : (col (head k) p).val / 4 = k.val / 64 := by simp only [col, head]; omega
    have e3 : (⟨(col (head k) p).val % 4, by omega⟩ : Fin 4) = p := Fin.ext (by simp only [col]; omega)
    simp only [e1, if_true, e3, ← mul_sum]
    have e4 : (⟨k.val / 64, by omega⟩ : Fin 16) = head k := rfl
    rw [e4]
    congr 1
    exact hats _ (A.tpos_bounds b n _).1 (A.tpos_bounds b n _).2 v
  · intro h _ hne
    have : h.val ≠ k.val / 64 := fun e => hne (Fin.ext e)
    apply sum_eq_zero; intro p _
    apply sum_eq_zero; intro r _
    rw [if_neg (by simp only [col]; omega)]
  · simp

/-- The same for the values, which may be infinite, times an output weight. -/
theorem core_col (A : Args) (b : Fin 2) (n : Fin 4096) (k : Fin 1024) (o : ℝ) :
    ∑ r : Fin 16, ∑ l : Fin 64, (weight A b n r l : EReal) * ((if l.val / 4 = k.val / 64 then A.val b (rowOf r.val) k else 0) * (o : EReal))
      = (∑ p, ↑(soft (A.wl b n) (head k) p) * A.sample b n (col (head k) p) k) * (o : EReal) := by
  have same : ∀ I : EReal, (∀ R, A.val b R k = I) →
      ∑ r : Fin 16, ∑ l : Fin 64, (weight A b n r l : EReal) * ((if l.val / 4 = k.val / 64 then A.val b (rowOf r.val) k else 0) * (o : EReal))
        = (∑ p, ↑(soft (A.wl b n) (head k) p) * A.sample b n (col (head k) p) k) * (o : EReal) := by
    intro I hI
    have t : ∀ (r : Fin 16) (l : Fin 64), (weight A b n r l : EReal) * ((if l.val / 4 = k.val / 64 then A.val b (rowOf r.val) k else 0) * (o : EReal))
        = ((if l.val / 4 = k.val / 64 then weight A b n r l * 1 else 0 : ℝ) : EReal) * (I * o) := fun r l => by
      split
      · rw [hI, mul_one]
      · simp
    have t0 : ∀ (r : Fin 16) (l : Fin 64), 0 ≤ (if l.val / 4 = k.val / 64 then weight A b n r l * 1 else 0 : ℝ) := fun r l => by
      split
      · rw [mul_one]; exact weight_nonneg A b n r l
      · exact le_rfl
    have u : ∀ p : Fin 4, ↑(soft (A.wl b n) (head k) p) * A.sample b n (col (head k) p) k
        = ((soft (A.wl b n) (head k) p * ((1 - A.fr b n (col (head k) p)) * 1 + A.fr b n (col (head k) p) * 1) : ℝ) : EReal) * I := fun p => by
      have hf := fr_bounds A b n (col (head k) p)
      rw [Args.sample, hI, hI, ← EReal.right_distrib_of_nonneg (EReal.coe_nonneg.2 hf.2) (EReal.coe_nonneg.2 hf.1), ← EReal.coe_add, ← mul_assoc, ← EReal.coe_mul,
        mul_one, mul_one]
    have u0 : ∀ p : Fin 4, 0 ≤ soft (A.wl b n) (head k) p * ((1 - A.fr b n (col (head k) p)) * 1 + A.fr b n (col (head k) p) * 1) := fun p => by
      have hf := fr_bounds A b n (col (head k) p)
      exact mul_nonneg (soft_nonneg _ _ _) (by linarith [hf.1, hf.2])
    simp only [t, u]
    rw [sum_congr rfl fun r _ => sum_mul_nonneg univ _ (t0 r) _, sum_mul_nonneg univ _ (fun r => sum_nonneg fun l _ => t0 r l), sum_mul_nonneg univ _ u0, mul_assoc]
    exact congrArg (fun x : ℝ => (x : EReal) * (I * o)) (core_real A b n k fun _ => 1)
  rcases val_uniform A b k with ⟨f, hf⟩ | hf | hf
  · replace hf : ∀ R, A.val b R k = f R := hf
    have t : ∀ (r : Fin 16) (l : Fin 64), (weight A b n r l : EReal) * ((if l.val / 4 = k.val / 64 then A.val b (rowOf r.val) k else 0) * (o : EReal))
        = (((if l.val / 4 = k.val / 64 then weight A b n r l * f (rowOf r.val) else 0) * o : ℝ) : EReal) := fun r l => by
      split
      · rw [hf, ← EReal.coe_mul, ← EReal.coe_mul, mul_assoc]
      · simp
    simp only [t]
    simp only [Args.sample, hf, ← EReal.coe_mul, ← EReal.coe_add, coe_sum, ← sum_mul]
    exact congrArg (fun x : ℝ => ((x * o : ℝ) : EReal)) (core_real A b n k fun r => f (rowOf r))
  · exact same ⊤ hf
  · exact same ⊥ hf

/-- The product with the table of window columns, as the sampled rows times the output weights. -/
theorem core (A : Args) (b : Fin 2) (n : Fin 4096) (d : Fin 1024) :
    ∑ r : Fin 16, ∑ l : Fin 64, ((soft (A.wl b n) ⟨l.val / 4, by omega⟩ ⟨l.val % 4, by omega⟩
        * max (1 - |A.posl b n l - (r.val - 15 / 2)|) 0 : ℝ) : EReal)
        * (∑ k : Fin 1024, (if l.val / 4 = k.val / 64 then A.val b (rowOf r.val) k else 0) * (A.Wo k d : EReal))
      = A.out b n d := by
  change ∑ r : Fin 16, ∑ l : Fin 64, (weight A b n r l : EReal) * _ = _
  simp only [mul_sum_nonneg _ (weight_nonneg A b n _ _)]
  rw [sum_congr rfl fun r _ => sum_comm, sum_comm]
  exact sum_congr rfl fun k _ => core_col A b n k (A.Wo k d)

end Cert.Spec

end
-- ==== Proof.Coe.lean ====
module

public import proofs.«01_k».proof.Proof.Spec
public import Idealize.ShloMosaic.Lib.Pointwise

@[expose] public section

/-! The operations of the programs on extended reals, where their operands are real numbers. -/

noncomputable section

namespace Cert.Coe

open Idealize.ShloMosaic

theorem coe_max (a b : ℝ) : max (a : EReal) b = ↑(max a b) := (EReal.coe_strictMono.monotone.map_max).symm

/-- An entry put to zero where it is not finite. -/
theorem clean (a : EReal) : Scalar.select (IntOp.xori (FloatOps.weird (F := Ideal) (a : Ideal .f32)) 1#1) a (0 : EReal) = ↑a.toReal := by
  induction a using EReal.rec with
  | bot => simp [Scalar.select, IntOp.xori, FloatOps.weird]
  | top => simp [Scalar.select, IntOp.xori, FloatOps.weird]
  | coe r => simp [Scalar.select, IntOp.xori, FloatOps.weird]

theorem word_2048 : Ideal.ofBits .f32 0x45000000#32 = ((2048 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_eps : Ideal.ofBits .f32 0x3727C5AC#32 = ((Spec.eps : ℝ) : EReal) := by
  simp [Ideal.ofBits, Ideal.ieee, Spec.eps, -EReal.coe_mul]; norm_num
theorem word_4 : Ideal.ofBits .f32 0x40800000#32 = ((4 : ℝ) : EReal) := by
  simp [Ideal.ofBits, Ideal.ieee, -EReal.coe_mul]; norm_num
theorem word_bot : Ideal.ofBits .f32 0xFF800000#32 = ⊥ := by
  simp [Ideal.ofBits, Ideal.ieee]

theorem div_real (a b : ℝ) (h : b ≠ 0) : Ideal.div (a : EReal) b = ↑(a / b) := by
  rw [Ideal.div_coe h, ← EReal.coe_mul]; congr 1; ring
theorem rsqrt_real (a : ℝ) (h : 0 < a) : Ideal.rsqrt (a : EReal) = ↑(√a)⁻¹ := by
  rw [Ideal.rsqrt_coe, if_neg h.not_gt, if_neg h.ne']
theorem absf_real (a : ℝ) : FloatOps.absf (F := Ideal) (φ := .f32) (a : EReal) = ((|a| : ℝ) : EReal) := by
  show max (a : EReal) (-(a : EReal)) = _
  rw [← EReal.coe_neg, coe_max]; rfl

/-- The greatest of finitely many real numbers, from minus infinity, is a real number. -/
theorem fold_max {n : ℕ} (hn : 0 < n) (f : Fin n → ℝ) :
    ∃ M : ℝ, Finset.fold max (⊥ : EReal) (fun x => (f x : EReal)) Finset.univ = M := by
  have key : ∀ s : Finset (Fin n), s.Nonempty → ∃ M : ℝ, Finset.fold max (⊥ : EReal) (fun x => (f x : EReal)) s = M := by
    intro s hs
    induction hs using Finset.Nonempty.cons_induction with
    | singleton a => exact ⟨f a, by simp⟩
    | cons a s ha _ ih =>
      obtain ⟨M, hM⟩ := ih
      exact ⟨max (f a) M, by rw [Finset.fold_cons, hM, coe_max]⟩
  exact key _ ⟨⟨0, hn⟩, Finset.mem_univ _⟩

end Cert.Coe

end
-- ==== Proof.Tables.lean ====
module

public import proofs.«01_k».proof.KernelIdeal
public import proofs.«01_k».proof.Proof.Coe
public import Mathlib.Tactic.IntervalCases
public import Idealize.ShloMosaic.Lib.Pipeline.Regions

@[expose] public section

/-! The constant tables the program spells out entry by entry, each as the rule its entries follow. -/

set_option maxRecDepth 65536

noncomputable section

namespace Cert.Tables

open Cert.KernelIdeal Idealize.ShloMosaic

/-- The entry `f` names at `x` out of 128, and `d` past the last. -/
def pick128 {α : Type} (f : Nat → α) (d : α) (x : Nat) : α := match x with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => d

theorem pick128_eq {α : Type} (f : Nat → α) (d : α) (x : Nat) (h : x < 128) : pick128 f d x = f x := by
  interval_cases x <;> rfl

/-- The entry `f` names at `x` out of 32, and `d` past the last. -/
def pick32 {α : Type} (f : Nat → α) (d : α) (x : Nat) : α := match x with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | _ => d

theorem pick32_eq {α : Type} (f : Nat → α) (d : α) (x : Nat) (h : x < 32) : pick32 f d x = f x := by
  interval_cases x <;> rfl

/-- The entry `f` names at `x` out of 4, and `d` past the last. -/
def pick4 {α : Type} (f : Nat → α) (d : α) (x : Nat) : α := match x with
  | 0 => f 0
  | 1 => f 1
  | 2 => f 2
  | 3 => f 3
  | _ => d

theorem pick4_eq {α : Type} (f : Nat → α) (d : α) (x : Nat) (h : x < 4) : pick4 f d x = f x := by
  interval_cases x <;> rfl

/-- The word of one where `p` holds, else the word of zero. -/
def ind (p : Bool) : BitVec 32 := bif p then 0x3F800000#32 else 0x00000000#32

/-- Entry `n` of the table that has a one where the two indices lie in the same group of four. -/
def ruleG (n : Nat) : BitVec 32 := ind (Nat.beq (Nat.div (Nat.div n 64) 4) (Nat.div (Nat.mod n 64) 4))
/-- Entry `n` of the table that repeats the identity of 64 along 1024 columns. -/
def ruleT (n : Nat) : BitVec 32 := ind (Nat.beq (Nat.div n 1024) (Nat.mod (Nat.mod n 1024) 64))

def at2 (g : Nat → BitVec 32) (b j : Nat) : BitVec 32 := g (Nat.add (Nat.mul 128 b) j)
def at3 (g : Nat → BitVec 32) (a b j : Nat) : BitVec 32 := g (Nat.add (Nat.mul 16384 a) (Nat.add (Nat.mul 128 b) j))

theorem lit2t_pick : lit2t = fun i => pick4 (fun a => pick128 (fun b => pick128 (fun j => at3 ruleT a b j) 0x00000000#32 (i % 128)) 0x00000000#32 (i / 128 % 128)) 0x00000000#32 (i / 16384) := by
  chain_rfl

theorem lit1t_pick : lit1t = fun i => pick32 (fun b => pick128 (fun j => at2 ruleG b j) 0x00000000#32 (i % 128)) 0x00000000#32 (i / 128) := by
  chain_rfl

theorem lit2_eq (i : Fin 65536) : lit2 i = ruleT i.val := by
  have h : lit2 i = lit2t i.val := rfl
  have hi := i.isLt
  rw [h, lit2t_pick]
  simp only
  rw [pick4_eq _ _ _ (by omega), pick128_eq _ _ _ (by omega), pick128_eq _ _ _ (by omega)]
  simp only [at3, Nat.add_eq, Nat.mul_eq]
  congr 1; omega

theorem lit1_eq (i : Fin 4096) : lit1 i = ruleG i.val := by
  have h : lit1 i = lit1t i.val := rfl
  have hi := i.isLt
  rw [h, lit1t_pick]
  simp only
  rw [pick32_eq _ _ _ (by omega), pick128_eq _ _ _ (by omega)]
  simp only [at2, Nat.add_eq, Nat.mul_eq]
  congr 1; omega

theorem word_one : Ideal.ofBits FTy.f32 0x3F800000#32 = ((1 : ℝ) : EReal) := by
  simp [Ideal.ofBits, Ideal.ieee, -EReal.coe_mul]; norm_num
theorem word_zero : Ideal.ofBits FTy.f32 0x00000000#32 = ((0 : ℝ) : EReal) := by
  simp [Ideal.ofBits, Ideal.ieee, -EReal.coe_mul]

theorem ind_real (p : Bool) : Ideal.ofBits FTy.f32 (ind p) = ↑(if p then 1 else 0 : ℝ) := by
  cases p
  · exact word_zero
  · exact word_one

/-- The table of groups, by its two indices. -/
theorem groups (a l : Fin 64) (n : Fin 4096) (h : n.val = 64 * a.val + l.val) :
    Ideal.ofBits FTy.f32 (lit1 n) = ↑(if a.val / 4 = l.val / 4 then 1 else 0 : ℝ) := by
  rw [lit1_eq, ruleG, ind_real, h]
  have e1 : (64 * a.val + l.val) / 64 = a.val := by omega
  have e2 : (64 * a.val + l.val) % 64 = l.val := by omega
  show ((ite (Nat.beq ((64 * a.val + l.val) / 64 / 4) ((64 * a.val + l.val) % 64 / 4) = true) 1 0 : ℝ) : EReal) = _
  rw [e1, e2]
  simp only [Nat.beq_eq]

/-- The table that repeats the identity, by its two indices. -/
theorem repeats (l : Fin 64) (c : Fin 1024) (n : Fin 65536) (h : n.val = 1024 * l.val + c.val) :
    Ideal.ofBits FTy.f32 (lit2 n) = ↑(if l.val = c.val % 64 then 1 else 0 : ℝ) := by
  rw [lit2_eq, ruleT, ind_real, h]
  have e1 : (1024 * l.val + c.val) / 1024 = l.val := by omega
  have e2 : (1024 * l.val + c.val) % 1024 = c.val := by omega
  show ((ite (Nat.beq ((1024 * l.val + c.val) / 1024) ((1024 * l.val + c.val) % 1024 % 64) = true) 1 0 : ℝ) : EReal) = _
  rw [e1, e2]
  simp only [Nat.beq_eq]

/-- The word of `p - 3 / 2`. -/
def baseW (p : Nat) : BitVec 32 := match p with
  | 0 => 0xBFC00000#32
  | 1 => 0xBF000000#32
  | 2 => 0x3F000000#32
  | _ => 0x3FC00000#32

theorem lit0_eq : ∀ l : Fin 64, lit0 l = baseW (l.val % 4) := by decide +kernel

theorem baseW_real (p : Nat) (h : p < 4) : Ideal.ofBits FTy.f32 (baseW p) = ↑((p : ℝ) - 3 / 2) := by
  interval_cases p <;> simp [baseW, Ideal.ofBits, Ideal.ieee, -EReal.coe_mul, -EReal.coe_sub] <;> norm_num [-EReal.coe_sub] <;> norm_cast <;> norm_num

theorem bases (l : Fin 64) : Ideal.ofBits FTy.f32 (lit0 l) = ↑((l.val % 4 : ℕ) - 3 / 2 : ℝ) := by
  rw [lit0_eq, baseW_real _ (by omega)]

/-- The word of `r - 15 / 2`. -/
def rowW (r : Nat) : BitVec 32 := match r with
  | 0 => 0xC0F00000#32
  | 1 => 0xC0D00000#32
  | 2 => 0xC0B00000#32
  | 3 => 0xC0900000#32
  | 4 => 0xC0600000#32
  | 5 => 0xC0200000#32
  | 6 => 0xBFC00000#32
  | 7 => 0xBF000000#32
  | 8 => 0x3F000000#32
  | 9 => 0x3FC00000#32
  | 10 => 0x40200000#32
  | 11 => 0x40600000#32
  | 12 => 0x40900000#32
  | 13 => 0x40B00000#32
  | 14 => 0x40D00000#32
  | _ => 0x40F00000#32

theorem lit3_eq : ∀ c : Fin 1024, lit3 c = rowW (c.val / 64) := by decide +kernel

theorem rowW_real (r : Nat) (h : r < 16) : Ideal.ofBits FTy.f32 (rowW r) = ↑((r : ℝ) - 15 / 2) := by
  interval_cases r <;> simp [rowW, Ideal.ofBits, Ideal.ieee, -EReal.coe_mul, -EReal.coe_sub] <;> norm_num [-EReal.coe_sub] <;> norm_cast <;> norm_num

theorem rows (c : Fin 1024) : Ideal.ofBits FTy.f32 (lit3 c) = ↑((c.val / 64 : ℕ) - 15 / 2 : ℝ) := by
  rw [lit3_eq, rowW_real _ (by omega)]

/-- The word of the row that column `c` of the table of window columns takes. -/
theorem place : ∀ c : Fin 1024, ((BitVec.ofNat 32 c.val &&& 63#32).sshiftRight 2) * 16#32 + (BitVec.ofNat 32 c.val).sshiftRight 6
    = BitVec.ofNat 32 (16 * (c.val % 64 / 4) + c.val / 64) := by decide +kernel

end Cert.Tables

end
-- ==== Proof.HostValues.lean ====
module

public import proofs.«01_k».proof.Proof.Tables
public import proofs.«01_k».proof.Proof.WholeRun
public import Idealize.ShloMosaic.Lib.Claim
public import Idealize.ShloMosaic.Lib.Pointwise

@[expose] public section

/-! What the lines around the two calls leave: the constant tables, the reshaped operands and the joined biases. -/

set_option maxRecDepth 16384

noncomputable section

namespace Cert.HostValues

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

theorem v0_at (l : Fin 64) : W1 m ρ c (Proc.devRef .tc main_v0) (ix2 0 l) = (((l.val % 4 : ℕ) - 3 / 2 : ℝ) : EReal) := by
  unfold_abbrev_sides
  after_results
  pointwise
  have e : S64.rowMajor (ix1 l) = l := Fin.ext (Shape.rowMajor_val_one _)
  rw [e, Tables.bases]

theorem v1_at (r : Fin 1024) : W1 m ρ c (Proc.devRef .tc main_v1) (ix2 0 r) = (((r.val / 64 : ℕ) - 15 / 2 : ℝ) : EReal) := by
  unfold_abbrev_sides
  after_results
  pointwise
  have e : S1024.rowMajor (ix1 r) = r := Fin.ext (Shape.rowMajor_val_one _)
  rw [e, Tables.rows]

theorem cst0_at (l l' : Fin 64) : W1 m ρ c (Proc.devRef .tc main_cst_0) (ix2 l l') = ((if l.val / 4 = l'.val / 4 then 1 else 0 : ℝ) : EReal) := by
  unfold_abbrev_sides
  after_results
  pointwise
  exact Tables.groups l l' _ ((Shape.rowMajor_val_two _).trans (by show l.val * 64 + l'.val = _; omega))

theorem cst1_at (l : Fin 64) (r : Fin 1024) : W1 m ρ c (Proc.devRef .tc main_cst_1) (ix2 l r) = ((if l.val = r.val % 64 then 1 else 0 : ℝ) : EReal) := by
  unfold_abbrev_sides
  after_results
  pointwise
  exact Tables.repeats l r _ ((Shape.rowMajor_val_two _).trans (by show l.val * 1024 + r.val = _; omega))

theorem v2_at (j : Fin 1024) : W1 m ρ c (Proc.devRef .tc main_v2) (ix2 0 j) = m ((c : Thread nD τ).loc main_arg5) (ix1 j) := by
  unfold_abbrev_sides
  after_results
  pointwise

theorem v3_at (j : Fin 1024) : W1 m ρ c (Proc.devRef .tc main_v3) (ix2 0 j) = m ((c : Thread nD τ).loc main_arg6) (ix1 j) := by
  unfold_abbrev_sides
  after_results
  pointwise

theorem placed : ∀ r : Fin 1024, IntOp.addi (IntOp.muli (IntOp.shrsi ArithUnit.host (IntOp.andi (BitVec.ofNat 32 r.val) 63#32) 2#32) 16#32)
    (IntOp.shrsi ArithUnit.host (BitVec.ofNat 32 r.val) 6#32) = BitVec.ofNat 32 (16 * (r.val % 64 / 4) + r.val / 64) := by decide +kernel

theorem v16_at (r : Fin 1024) (i : Fin 256) : W1 m ρ c (Proc.devRef .tc main_v16) (ix2 r i) = ((if i.val = 16 * (r.val % 64 / 4) + r.val / 64 then (1 : ℝ) else 0 : ℝ) : EReal) := by
  unfold_abbrev_sides
  after_results
  pointwise
  rw [placed]
  have hlt : 16 * (r.val % 64 / 4) + r.val / 64 < 256 := by omega
  generalize 16 * (r.val % 64 / 4) + r.val / 64 = n at hlt ⊢
  have e : IntOp.cmpi CmpIPredicate.eq (BitVec.ofNat 32 i.val) (BitVec.ofNat 32 n) = if i.val = n then 1#1 else 0#1 := by
    have : (BitVec.ofNat 32 i.val = BitVec.ofNat 32 n) ↔ i.val = n := by
      rw [BitVec.toNat_eq, BitVec.toNat_ofNat, BitVec.toNat_ofNat, Nat.mod_eq_of_lt (by omega), Nat.mod_eq_of_lt (by omega)]
    by_cases h : i.val = n
    · simp [IntOp.cmpi, h]
    · have hb : (BitVec.ofNat 32 i.val == BitVec.ofNat 32 n) = false := by rw [beq_eq_false_iff_ne]; exact fun e => h (this.mp e)
      simp [IntOp.cmpi, h, hb]
  rw [e]
  split
  · simp [FloatOps.uitofp]
  · simp [FloatOps.uitofp]

theorem v20_lo (l : Fin 64) : W3 m ρ c (Proc.devRef .tc main_v20) (ix2 0 (⟨l.val, by omega⟩ : Fin 128)) = W2 m ρ c (Proc.devRef .tc main_arg14) (ix1 l) := by
  unfold_abbrev_sides
  after_results
  pointwise

theorem v20_hi (l : Fin 64) : W3 m ρ c (Proc.devRef .tc main_v20) (ix2 0 (⟨64 + l.val, by omega⟩ : Fin 128)) = W2 m ρ c (Proc.devRef .tc main_arg16) (ix1 l) := by
  unfold_abbrev_sides
  after_results
  pointwise

end Cert.HostValues

end
-- ==== Proof.Table.lean ====
module

public import proofs.«01_k».proof.Proof.CallOne
public import proofs.«01_k».proof.Proof.Coe
public import Idealize.ShloMosaic.Lib.Pipeline.Value
public import Idealize.ShloMosaic.Lib.Pipeline.ValueKit.Tiles

@[expose] public section

/-! What the first call computes, entry by entry, on real numbers. -/

set_option maxRecDepth 16384

noncomputable section

namespace Cert.Table

open Cert.KernelIdeal Cert.KernelIdeal.Gen Cert.Spec Cert.Coe Idealize.ShloMosaic Idealize.ShloMosaic.TcCoe

/-- The norming of a row, as the two calls write it. -/
def normed (f : Fin 1024 → EReal) (j : Fin 1024) : EReal :=
  (f j - Ideal.div (∑ x, f x) (Ideal.ofBits .f32 0x44800000#32))
    * Ideal.rsqrt (Ideal.div (∑ x, (f x - Ideal.div (∑ x, f x) (Ideal.ofBits .f32 0x44800000#32)) * (f x - Ideal.div (∑ x, f x) (Ideal.ofBits .f32 0x44800000#32)))
        (Ideal.ofBits .f32 0x44800000#32) + Ideal.ofBits .f32 925353388#32)

theorem normed_real (u : Fin 1024 → ℝ) (j : Fin 1024) : normed (fun x => ↑(u x)) j = ↑(lnorm u j) := by
  rw [normed, coe_sum, word_1024, div_real _ _ (by norm_num)]
  simp only [← EReal.coe_sub, ← EReal.coe_mul]
  have hm : (∑ k, u k) / 1024 = mean u := by rw [mean]; norm_num
  rw [hm, coe_sum, div_real _ _ (by norm_num)]
  have hv : (∑ k, (u k - mean u) * (u k - mean u)) / 1024 = vari u := by rw [vari]; norm_num
  rw [hv, word_eps, ← EReal.coe_add, rsqrt_real _ (vari_eps_pos u), ← EReal.coe_mul]
  rfl

section Rows

variable (v0 : Vec Ideal S1x8x1024 .f32) (v6 : Vec Ideal S1x1024 .f32) (v9 : Vec Ideal S1x8x1024 .f32) (v15 : Vec Ideal S1x1024 .f32)
  (r : Fin 16) (u : Fin 1024 → ℝ)

theorem row_at (h0 : ∀ (h : r.val < 8) j, ↑(EReal.toReal (v0 (ix3 0 ⟨r.val, h⟩ j))) + v6 (ix2 0 j) = ↑(u j))
    (h1 : ∀ (h : ¬r.val < 8) j, ↑(EReal.toReal (v9 (ix3 0 ⟨r.val - 8, by omega⟩ j))) + v15 (ix2 0 j) = ↑(u j)) (x : Fin 1024) :
    (if h : r.val < 8 then
        Scalar.select (IntOp.xori (FloatOps.weird (F := Ideal) (v0 (ix3 0 ⟨r.val, h⟩ x) : Ideal .f32)) 1#1) (v0 (ix3 0 ⟨r.val, h⟩ x)) (0 : EReal) + v6 (ix2 0 x)
      else
        Scalar.select (IntOp.xori (FloatOps.weird (F := Ideal) (v9 (ix3 0 ⟨r.val - 8, by omega⟩ x) : Ideal .f32)) 1#1) (v9 (ix3 0 ⟨r.val - 8, by omega⟩ x)) (0 : EReal) + v15 (ix2 0 x))
      = ↑(u x) := by
  split
  · rw [clean]; exact h0 ‹_› x
  · rw [clean]; exact h1 ‹_› x

theorem pay10_at (h0 : ∀ (h : r.val < 8) j, ↑(EReal.toReal (v0 (ix3 0 ⟨r.val, h⟩ j))) + v6 (ix2 0 j) = ↑(u j))
    (h1 : ∀ (h : ¬r.val < 8) j, ↑(EReal.toReal (v9 (ix3 0 ⟨r.val - 8, by omega⟩ j))) + v15 (ix2 0 j) = ↑(u j)) (j : Fin 1024) :
    k0_pay10 (F := Ideal) v0 v6 v9 v15 (ix2 r j) = ↑(lnorm u j) := by
  have hr := row_at v0 v6 v9 v15 r u h0 h1
  rw [← normed_real, ← funext hr]
  pointwise [k0_pay10]
  rfl

end Rows

theorem pay12_at (v34 v37 : FVec Ideal S16x1024 .f32) (v39 : Vec Ideal S1x1024 .f32) (v43 : Vec Ideal S1024x1024 .f32)
    (r : Fin 16) (k : Fin 1024) :
    k0_pay12 (F := Ideal) v34 v37 v39 v43 (ix2 r k) = ∑ j : Fin 1024, (v34 (ix2 r j) * v37 (ix2 r j) + v39 (ix2 0 j)) * v43 (ix2 j k) := by
  pointwise [k0_pay12]

theorem pay11_at (v35 : Vec Ideal S1x1024 .f32) (r : Fin 16) (j : Fin 1024) : k0_pay11 (F := Ideal) v35 (ix2 r j) = v35 (ix2 0 j) := by
  pointwise [k0_pay11]

theorem pay3_at (v113 : Vec Ideal S256x1024 .f32) (v114 : Vec Ideal S1024x1024 .f32) (v116 : Vec Ideal S1024x256 .f32) (c d : Fin 1024) :
    k0_pay3 (F := Ideal) v113 v114 v116 (ix3 0 c d) = ∑ i : Fin 256, v116 (ix2 c i) * ∑ k : Fin 1024, v113 (ix2 i k) * v114 (ix2 k d) := by
  pointwise [k0_pay3]

theorem pay6_at (v126 : Vec Ideal S2048x1024 .f32) (v127 : Vec Ideal S1024x64 .f32) (k : Fin 2048) (l : Fin 64) :
    k0_pay6 (F := Ideal) v126 v127 (ix2 k l) = ∑ j : Fin 1024, v126 (ix2 k j) * v127 (ix2 j l) := by
  pointwise [k0_pay6, k0_pay4]

theorem pay7_at (v126 : Vec Ideal S2048x1024 .f32) (v127 : Vec Ideal S1024x64 .f32) (k : Fin 2048) (l : Fin 64) :
    k0_pay7 (F := Ideal) v126 v127 (ix2 k l) = ∑ j : Fin 1024, v126 (ix2 k j) * v127 (ix2 j l) := by
  pointwise [k0_pay7, k0_pay5]

theorem pay8_at (v126 : Vec Ideal S2048x1024 .f32) (v127 : Vec Ideal S1024x64 .f32) (l : Fin 64) :
    k0_pay8 (F := Ideal) v126 v127 (ix2 0 l) = ∑ k : Fin 2048, ∑ j : Fin 1024, v126 (ix2 k j) * v127 (ix2 j l) := by
  pointwise [k0_pay8, k0_pay4]

theorem pay9_at (v126 : Vec Ideal S2048x1024 .f32) (v127 : Vec Ideal S1024x64 .f32) (l : Fin 64) :
    k0_pay9 (F := Ideal) v126 v127 (ix2 0 l) = ∑ k : Fin 2048, ∑ j : Fin 1024, v126 (ix2 k j) * v127 (ix2 j l) := by
  pointwise [k0_pay9, k0_pay5]

/-- A tile cut from the value table. -/
theorem cut (V : FVec Ideal S16x1024 .f32) (o : ℕ) (hs : S16x1024.Slices ![0, o] S16x64) (hc : S16x64.ShapeCasts S16x64) (a : Fin 16) (b : Fin 64) (k : Fin 1024)
    (h : k.val = o + b.val) : shapeCast S16x64 (extractStridedSlice S16x64 ![0, o] V hs) hc (ix2 a b) = V (ix2 a k) := by
  obtain ⟨k, hk⟩ := k
  subst h
  pointwise []

/-- One more tile on the diagonal, stored over what was there. -/
theorem step (V : Vec Ideal S16x1024 .f32) (L : List (View.Piece (Elt Ideal) S256x1024 .f32)) (H : ℕ) {o0 o1 : ℕ} (e0 : o0 = 16 * H) (e1 : o1 = 64 * H)
    (inb : ∀ a : Fin S256x1024.rank, ![o0, o1] a + ![16, 64] a ≤ S256x1024.size a) (w : (Rect.unit (s := S256x1024) ![o0, o1] ![16, 64] inb).shape.Idx → Elt Ideal .f32)
    (hw : ∀ (a : Fin 16) (b : Fin 64) (k : Fin 1024), k.val = 64 * H + b.val → w (ix2 a b) = V (ix2 a k))
    (hL : ∀ (i : Fin 256) (k : Fin 1024), View.canon L (ix2 i k) = if i.val / 16 = k.val / 64 ∧ i.val / 16 < H then V (ix2 ⟨i.val % 16, by omega⟩ k) else 0)
    (i : Fin 256) (k : Fin 1024) :
    View.canon ((⟨Rect.unit (s := S256x1024) ![o0, o1] ![16, 64] inb, w⟩ : View.Piece (Elt Ideal) S256x1024 .f32) :: L) (ix2 i k)
      = if i.val / 16 = k.val / 64 ∧ i.val / 16 < H + 1 then V (ix2 ⟨i.val % 16, by omega⟩ k) else 0 := by
  by_cases h : i.val / 16 = H ∧ k.val / 64 = H
  · have e : ix2 i k = (Rect.unit (s := S256x1024) ![o0, o1] ![16, 64] inb).emb (ix2 (⟨i.val % 16, by omega⟩ : Fin 16) (⟨k.val % 64, by omega⟩ : Fin 64)) := by
      refine funext fun a => Fin.ext ?_
      rw [Rect.emb_apply]
      fin_cases a
      · show i.val = o0 + 1 * (i.val % 16); omega
      · show k.val = o1 + 1 * (k.val % 64); omega
    rw [e, View.canon_cons_emb, hw _ _ k (by show k.val = 64 * H + k.val % 64; omega), if_pos (by omega)]
  · rw [View.canon_cons_of_not_mem, hL]
    · congr 1
      apply propext
      omega
    · intro hm
      have := (Rect.mem_set_unit (s := S256x1024) (off := ![o0, o1]) (size := ![16, 64]) (inb := inb)).mp hm
      have a0 := this 0
      have a1 := this 1
      apply h
      change o0 ≤ i.val ∧ i.val < o0 + 16 at a0
      change o1 ≤ k.val ∧ k.val < o1 + 64 at a1
      omega

section Form
variable (c : Dev nD) (i : grid0.Coords) (arg1 : Memref sig .tc .vmem S1x8x1024 .f32) (harg1 : arg1.IsWhole) (arg2 : Memref sig .tc .vmem S1x8x1024 .f32) (harg2 : arg2.IsWhole) (arg3 : Memref sig .tc .vmem S2x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x256 .f32) (harg8 : arg8.IsWhole) (arg9 : Memref sig .tc .vmem S2048x1024 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1x1024x1024 .bf16) (harg12 : arg12.IsWhole) (arg13 : Memref sig .tc .vmem S2048x64 .bf16) (harg13 : arg13.IsWhole) (arg14 : Memref sig .tc .vmem S2048x64 .bf16) (harg14 : arg14.IsWhole) (arg15 : Memref sig .tc .vmem S1x128 .f32) (harg15 : arg15.IsWhole) (arg16 : Memref sig .tc .vmem S256x1024 .f32) (harg16 : arg16.IsWhole)
  (x0 : Vec Ideal S1x8x1024 .f32) (x1 : Vec Ideal S1x8x1024 .f32) (x2 : Vec Ideal S2x1024 .f32) (x3 : Vec Ideal S1x1024 .f32) (x4 : Vec Ideal S1x1024 .f32) (x5 : Vec Ideal S1024x1024 .f32) (x6 : Vec Ideal S1024x1024 .f32) (x7 : Vec Ideal S1024x256 .f32) (x8 : Vec Ideal S2048x1024 .f32) (x9 : Vec Ideal S1024x64 .f32) (x10 : Vec Ideal S1024x64 .f32)
  (xo12 xo13 : Vec Ideal S2048x64 .bf16) (xo14 : Vec Ideal S1x128 .f32)

/-- The value table of the first call: its rows of the memory normed, scaled and shifted, times the value weights. -/
def Vt : Vec Ideal S16x1024 .f32 :=
  k0_pay12 (F := Ideal) (k0_pay10 x0 (View.ld x2 (Rect.unit ![0, 0] ![1, 1024] inb_S2x1024_S1x1024_0_0)) x1 (View.ld x2 (Rect.unit ![1, 0] ![1, 1024] inb_S2x1024_S1x1024_1_0))) (k0_pay11 x3) x4 x5

theorem r2_eq : kernelRun0_A.sl.r_2 (F := Ideal) c arg1 harg1 arg2 harg2 arg3 harg3 arg4 harg4 arg5 harg5 arg6 harg6 x0 x1 x2 x3 x4 x5 = Vt x0 x1 x2 x3 x4 x5 := by
  have hz3 : (![0, 0, 0] : Fin S1x8x1024.rank → Nat) = fun _ => 0 := funext fun a => by fin_cases a <;> rfl
  have hz2 : (![0, 0] : Fin S1x1024.rank → Nat) = fun _ => 0 := funext fun a => by fin_cases a <;> rfl
  rw [kernelRun0_A.sl.r_2, Vt, kernelRun0_A.sl.r, kernelRun0_A.sl.r_1]
  simp only [View.readAt_eq_ld, Memref.IsWhole.read_unread]
  simp only [View.ld_unit_zero (S := S1x8x1024) hz3, View.ld_unit_zero (S := S1x1024) hz2, View.ld_unit_zero (S := S1024x1024) hz2]

theorem scr (i : Fin 256) (k : Fin 1024) : kernelRun0_A.sl.v113 (F := Ideal) c arg1 harg1 arg2 harg2 arg3 harg3 arg4 harg4 arg5 harg5 arg6 harg6 arg16 x0 x1 x2 x3 x4 x5 (ix2 i k)
    = if i.val / 16 = k.val / 64 then Vt x0 x1 x2 x3 x4 x5 (ix2 ⟨i.val % 16, by omega⟩ k) else 0 := by
  rw [kernelRun0_A.sl.v113, View.readCov_eq_canon', ← r2_eq c arg1 harg1 arg2 harg2 arg3 harg3 arg4 harg4 arg5 harg5 arg6 harg6 x0 x1 x2 x3 x4 x5]
  simp only [kernelRun0_A.sl.HS0_17]
  have e : (Rect.unit (s := S256x1024) ![0, 0] ![256, 1024] inb_S256x1024_S256x1024_0_0).toLoadRect.idx (ix2 i k) = ix2 i k := by
    refine funext fun a => Fin.ext ?_
    fin_cases a
    · show 0 + 1 * i.val = i.val; omega
    · show 0 + 1 * k.val = k.val; omega
  refine Eq.trans ?_ (if_congr (show (i.val / 16 = k.val / 64 ∧ i.val / 16 < 15 + 1) ↔ _ from ⟨fun h => h.1, fun h => ⟨h, by omega⟩⟩) rfl rfl)
  refine (congrArg _ e).trans ?_
  refine step _ _ 15 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 960 slices_S16x1024_o0_960_S16x64 shapeCasts_S16x64_S16x64 a b k h
  refine step _ _ 14 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 896 slices_S16x1024_o0_896_S16x64 shapeCasts_S16x64_S16x64 a b k h
  refine step _ _ 13 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 832 slices_S16x1024_o0_832_S16x64 shapeCasts_S16x64_S16x64 a b k h
  refine step _ _ 12 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 768 slices_S16x1024_o0_768_S16x64 shapeCasts_S16x64_S16x64 a b k h
  refine step _ _ 11 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 704 slices_S16x1024_o0_704_S16x64 shapeCasts_S16x64_S16x64 a b k h
  refine step _ _ 10 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 640 slices_S16x1024_o0_640_S16x64 shapeCasts_S16x64_S16x64 a b k h
  refine step _ _ 9 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 576 slices_S16x1024_o0_576_S16x64 shapeCasts_S16x64_S16x64 a b k h
  refine step _ _ 8 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 512 slices_S16x1024_o0_512_S16x64 shapeCasts_S16x64_S16x64 a b k h
  refine step _ _ 7 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 448 slices_S16x1024_o0_448_S16x64 shapeCasts_S16x64_S16x64 a b k h
  refine step _ _ 6 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 384 slices_S16x1024_o0_384_S16x64 shapeCasts_S16x64_S16x64 a b k h
  refine step _ _ 5 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 320 slices_S16x1024_o0_320_S16x64 shapeCasts_S16x64_S16x64 a b k h
  refine step _ _ 4 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 256 slices_S16x1024_o0_256_S16x64 shapeCasts_S16x64_S16x64 a b k h
  refine step _ _ 3 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 192 slices_S16x1024_o0_192_S16x64 shapeCasts_S16x64_S16x64 a b k h
  refine step _ _ 2 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 128 slices_S16x1024_o0_128_S16x64 shapeCasts_S16x64_S16x64 a b k h
  refine step _ _ 1 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 64 slices_S16x1024_o0_64_S16x64 shapeCasts_S16x64_S16x64 a b k h
  refine step _ _ 0 rfl rfl _ _ (fun a b k h => ?_) (fun i k => ?_) i k
  · exact cut (kernelRun0_A.sl.r_2 (F := Ideal) c arg1 harg1 arg2 harg2 arg3 harg3 arg4 harg4 arg5 harg5 arg6 harg6 x0 x1 x2 x3 x4 x5) 0 slices_S16x1024_o0_0_S16x64 shapeCasts_S16x64_S16x64 a b k h
  have hz : (![0, 0] : Fin S256x1024.rank → Nat) = fun _ => 0 := funext fun a => by fin_cases a <;> rfl
  rw [View.canon_unit_zero (S := S256x1024) hz, if_neg (by omega)]
  pointwise [k0_pay13]

theorem same : kernelRun0_A.sl.v113 (F := Ideal) c arg1 harg1 arg2 harg2 arg3 harg3 arg4 harg4 arg5 harg5 arg6 harg6 arg16 x0 x1 x2 x3 x4 x5
   = kernelRun0_B.sl.v113 (F := Ideal) c arg1 harg1 arg2 harg2 arg3 harg3 arg4 harg4 arg5 harg5 arg6 harg6 arg16 x0 x1 x2 x3 x4 x5 := rfl

theorem form11A (hc0 : cond0_0 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay3 (kernelRun0_A.sl.v113 (F := Ideal) c arg1 harg1 arg2 harg2 arg3 harg3 arg4 harg4 arg5 harg5 arg6 harg6 arg16 x0 x1 x2 x3 x4 x5) x6 x7 := by
  have hz3 : (![0, 0, 0] : Fin S1x1024x1024.rank → Nat) = fun _ => 0 := funext fun a => by fin_cases a <;> rfl
  have hz2 : (![0, 0] : Fin S1024x1024.rank → Nat) = fun _ => 0 := funext fun a => by fin_cases a <;> rfl
  unfold out0_A_11
  rw [View.read_writes_junk_eq_canon]
  dsimp only [kernelRun0_A]
  rw [View.canon_unit_zero (S := S1x1024x1024) hz3]
  simp only [View.readAt_eq_ld, Memref.IsWhole.read_unread]
  rw [View.ld_unit_zero (S := S1024x1024) hz2, View.ld_unit_zero (S := S1024x256) hz2]

theorem form11B (hc0 : ¬ cond0_0 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo12 xo13 xo14 = k0_pay3 (kernelRun0_A.sl.v113 (F := Ideal) c arg1 harg1 arg2 harg2 arg3 harg3 arg4 harg4 arg5 harg5 arg6 harg6 arg16 x0 x1 x2 x3 x4 x5) x6 x7 := by
  have hz3 : (![0, 0, 0] : Fin S1x1024x1024.rank → Nat) = fun _ => 0 := funext fun a => by fin_cases a <;> rfl
  have hz2 : (![0, 0] : Fin S1024x1024.rank → Nat) = fun _ => 0 := funext fun a => by fin_cases a <;> rfl
  unfold out0_B_11
  rw [View.read_writes_junk_eq_canon]
  dsimp only [kernelRun0_B]
  rw [View.canon_unit_zero (S := S1x1024x1024) hz3]
  simp only [View.readAt_eq_ld, Memref.IsWhole.read_unread]
  rw [View.ld_unit_zero (S := S1024x1024) hz2, View.ld_unit_zero (S := S1024x256) hz2]
  rfl

theorem form12A (hc0 : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay6 x8 x9 := by
  have hz3 : (![0, 0, 0] : Fin S1x1024x1024.rank → Nat) = fun _ => 0 := funext fun a => by fin_cases a <;> rfl
  have hz2 : (![0, 0] : Fin S1024x1024.rank → Nat) = fun _ => 0 := funext fun a => by fin_cases a <;> rfl
  unfold out0_A_12
  rw [View.read_writes_junk_eq_canon]
  dsimp only [kernelRun0_A]
  rw [View.canon_unit_zero (S := S2048x64) hz2]
  simp only [View.readAt_eq_ld, Memref.IsWhole.read_unread]
  rw [View.ld_unit_zero (S := S2048x1024) hz2, View.ld_unit_zero (S := S1024x64) hz2]

theorem form13A (hc0 : cond0_0 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay7 x8 x10 := by
  have hz3 : (![0, 0, 0] : Fin S1x1024x1024.rank → Nat) = fun _ => 0 := funext fun a => by fin_cases a <;> rfl
  have hz2 : (![0, 0] : Fin S1024x1024.rank → Nat) = fun _ => 0 := funext fun a => by fin_cases a <;> rfl
  unfold out0_A_13
  rw [View.read_writes_junk_eq_canon]
  dsimp only [kernelRun0_A]
  rw [View.canon_unit_zero (S := S2048x64) hz2]
  simp only [View.readAt_eq_ld, Memref.IsWhole.read_unread]
  rw [View.ld_unit_zero (S := S2048x1024) hz2, View.ld_unit_zero (S := S1024x64) hz2]

theorem form14A_lo (hc0 : cond0_0 i) (l : Fin 64) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix2 0 (⟨l.val, by omega⟩ : Fin 128)) = k0_pay8 (F := Ideal) x8 x9 (ix2 0 l) := by
  have hz3 : (![0, 0, 0] : Fin S1x1024x1024.rank → Nat) = fun _ => 0 := funext fun a => by fin_cases a <;> rfl
  have hz2 : (![0, 0] : Fin S1024x1024.rank → Nat) = fun _ => 0 := funext fun a => by fin_cases a <;> rfl
  unfold out0_A_14
  rw [View.read_writes_junk_eq_canon]
  dsimp only [kernelRun0_A]
  rw [View.canon_cons_of_not_mem]
  · simp only [View.readAt_eq_ld, Memref.IsWhole.read_unread]
    rw [View.ld_unit_zero (S := S2048x1024) hz2, View.ld_unit_zero (S := S1024x64) hz2]
    have e : ix2 (0 : Fin 1) (⟨l.val, by omega⟩ : Fin 128) = (Rect.unit (s := S1x128) ![0, 0] ![1, 64] inb_S1x128_S1x64_0_0).emb (ix2 0 l) := by
      refine funext fun a => Fin.ext ?_
      rw [Rect.emb_apply]
      fin_cases a
      · rfl
      · show l.val = 0 + 1 * l.val; omega
    rw [e, View.canon_cons_emb]
  · intro hm
    have a1 := (Rect.mem_set_unit (s := S1x128) (off := ![0, 64]) (size := ![1, 64]) (inb := inb_S1x128_S1x64_0_64)).mp hm 1
    change 64 ≤ l.val ∧ _ at a1
    omega

theorem form14A_hi (hc0 : cond0_0 i) (l : Fin 64) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix2 0 (⟨64 + l.val, by omega⟩ : Fin 128)) = k0_pay9 (F := Ideal) x8 x10 (ix2 0 l) := by
  have hz3 : (![0, 0, 0] : Fin S1x1024x1024.rank → Nat) = fun _ => 0 := funext fun a => by fin_cases a <;> rfl
  have hz2 : (![0, 0] : Fin S1024x1024.rank → Nat) = fun _ => 0 := funext fun a => by fin_cases a <;> rfl
  unfold out0_A_14
  rw [View.read_writes_junk_eq_canon]
  dsimp only [kernelRun0_A]
  simp only [View.readAt_eq_ld, Memref.IsWhole.read_unread]
  rw [View.ld_unit_zero (S := S2048x1024) hz2, View.ld_unit_zero (S := S1024x64) hz2]
  have e : ix2 (0 : Fin 1) (⟨64 + l.val, by omega⟩ : Fin 128) = (Rect.unit (s := S1x128) ![0, 64] ![1, 64] inb_S1x128_S1x64_0_64).emb (ix2 0 l) := by
    refine funext fun a => Fin.ext ?_
    rw [Rect.emb_apply]
    fin_cases a
    · rfl
    · show 64 + l.val = 64 + 1 * l.val; omega
  rw [e, View.canon_cons_emb]

end Form

section Real

variable (A : Args) (b : Fin 2)

theorem val_at (x0 x1 : Vec Ideal S1x8x1024 .f32) (x2 : Vec Ideal S2x1024 .f32) (x3 x4 : Vec Ideal S1x1024 .f32) (x5 : Vec Ideal S1024x1024 .f32)
    (r : Fin 16) (h0 : ∀ (h : r.val < 8) j, ↑(EReal.toReal (x0 (ix3 0 ⟨r.val, h⟩ j))) + x2 (ix2 0 j) = ↑(A.memrow b (rowOf r) j))
    (h1 : ∀ (h : ¬r.val < 8) j, ↑(EReal.toReal (x1 (ix3 0 ⟨r.val - 8, by omega⟩ j))) + x2 (ix2 1 j) = ↑(A.memrow b (rowOf r) j))
    (h3 : ∀ j, x3 (ix2 0 j) = ↑(A.gm j)) (h4 : ∀ j, x4 (ix2 0 j) = A.bm j) (h5 : ∀ j k, x5 (ix2 j k) = ↑(A.Wv j k)) (k : Fin 1024) :
    Vt x0 x1 x2 x3 x4 x5 (ix2 r k) = A.val b (rowOf r) k := by
  rw [Vt, pay12_at]
  have e : ∀ j, k0_pay10 (F := Ideal) x0 (View.ld x2 (Rect.unit ![0, 0] ![1, 1024] inb_S2x1024_S1x1024_0_0)) x1 (View.ld x2 (Rect.unit ![1, 0] ![1, 1024] inb_S2x1024_S1x1024_1_0)) (ix2 r j)
      = ↑(lnorm (A.memrow b (rowOf r)) j) := fun j => by
    refine pay10_at x0 _ x1 _ r _ (fun h j => ?_) (fun h j => ?_) j
    · rw [← h0 h j]
      exact congrArg _ (View.ld_unit_apply_of _ _ _ _ _ _ fun a => by fin_cases a <;> simp)
    · rw [← h1 h j]
      exact congrArg _ (View.ld_unit_apply_of _ _ _ _ _ _ fun a => by fin_cases a <;> simp)
  simp only [e, pay11_at, h3, h4, h5, ← EReal.coe_mul]
  rfl

theorem g_at (v : Vec Ideal S256x1024 .f32) (V : Fin 16 → Fin 1024 → EReal) (Wo : Fin 1024 → Fin 1024 → ℝ) (x6 : Vec Ideal S1024x1024 .f32) (x7 : Vec Ideal S1024x256 .f32)
    (hv : ∀ (i : Fin 256) k, v (ix2 i k) = if i.val / 16 = k.val / 64 then V ⟨i.val % 16, by omega⟩ k else 0)
    (h6 : ∀ j k, x6 (ix2 j k) = ↑(Wo j k))
    (h7 : ∀ (c : Fin 1024) (i : Fin 256), x7 (ix2 c i) = ↑(if i.val = 16 * (c.val % 64 / 4) + c.val / 64 then (1 : ℝ) else 0)) (c d : Fin 1024) :
    k0_pay3 (F := Ideal) v x6 x7 (ix3 0 c d) = ∑ k : Fin 1024, (if c.val % 64 / 4 = k.val / 64 then V ⟨c.val / 64, by omega⟩ k else 0) * (Wo k d : EReal) := by
  rw [pay3_at]
  simp only [hv, h6, h7]
  rw [Finset.sum_eq_single (⟨16 * (c.val % 64 / 4) + c.val / 64, by omega⟩ : Fin 256)]
  · rw [if_pos rfl, EReal.coe_one, one_mul]
    refine Finset.sum_congr rfl fun k _ => ?_
    have e1 : (16 * (c.val % 64 / 4) + c.val / 64) / 16 = c.val % 64 / 4 := by omega
    have e2 : (16 * (c.val % 64 / 4) + c.val / 64) % 16 = c.val / 64 := by omega
    simp only [e1, e2]
  · intro i _ hi
    rw [if_neg (fun h => hi (Fin.ext h)), EReal.coe_zero, zero_mul]
  · intro h; exact absurd (Finset.mem_univ _) h

end Real

end Cert.Table

end
-- ==== Proof.Block.lean ====
module

public import proofs.«01_k».proof.Proof.CallTwo
public import proofs.«01_k».proof.Proof.Coe
public import Idealize.ShloMosaic.Lib.Pipeline.Value
public import Idealize.ShloMosaic.Lib.Pipeline.ValueKit.Tiles

@[expose] public section

/-! What one block of the main call computes, row by row, on real numbers. -/

set_option maxRecDepth 16384

noncomputable section

namespace Cert.Block

open Cert.KernelIdeal Cert.KernelIdeal.Gen Cert.Spec Cert.Coe Idealize.ShloMosaic Idealize.ShloMosaic.TcCoe

theorem pay2_at (v0 : Vec Ideal S1x1024x1024 .f32) (v6 : Vec Ideal S1x1024 .f32) (i k : Fin 1024) :
    k1_pay2 (F := Ideal) v0 v6 (ix2 i k) = ↑(EReal.toReal (v0 (ix3 0 i k))) + v6 (ix2 0 k) := by
  pointwise [k1_pay2]
  rw [clean]

theorem pay3_at (v0 : Vec Ideal S1x1024x1024 .f32) (v6 : Vec Ideal S1x1024 .f32) (i k : Fin 1024) :
    k1_pay3 (F := Ideal) v0 v6 (ix2 i k) = ↑(EReal.toReal (v0 (ix3 0 i k))) + v6 (ix2 0 k) := by
  pointwise [k1_pay3]
  rw [clean]

section Row

variable (v0 : Vec Ideal S1x1024x1024 .f32) (v6 : Vec Ideal S1x1024 .f32) (v9 : Vec Ideal S1x1024x1024 .f32) (v15 : Vec Ideal S1x1024 .f32)
  (i : Fin 1024) (U : Fin 2048 → ℝ)
  (hP : ∀ k : Fin 1024, k1_pay2 (F := Ideal) v0 v6 (ix2 i k) = ↑(U ⟨k.val, by omega⟩))
  (hX : ∀ k : Fin 1024, k1_pay3 (F := Ideal) v9 v15 (ix2 i k) = ↑(U ⟨1024 + k.val, by omega⟩))
include hP hX

theorem pay4_at : k1_pay4 (F := Ideal) v0 v6 v9 v15 (ix2 i 0) = ↑(mean U) := by
  pointwise [k1_pay4]
  simp only [hP, hX]
  rw [coe_sum, coe_sum, ← EReal.coe_add, word_2048, div_real _ _ (by norm_num), ← sum_halves]
  rw [mean]; norm_num

theorem pay5_at : k1_pay5 (F := Ideal) v0 v6 v9 v15 (ix2 i 0) = ↑(vari U) := by
  pointwise [k1_pay5]
  rw [pay4_at v0 v6 v9 v15 i U hP hX]
  simp only [hP, hX, ← EReal.coe_mul]
  rw [coe_sum, coe_sum, ← EReal.coe_add, word_2048, div_real _ _ (by norm_num), ← sum_halves (fun k => U k * U k), ← EReal.coe_sub,
    ← vari_eq (by norm_num) U]
  norm_num

variable (v43 v46 : Vec Ideal S1024x64 .bf16) (v60 : Vec Ideal S1x64 .f32) (l : Fin 64) (W : Fin 2048 → Fin 1024 → ℝ) (v : Fin 1024 → ℝ)
  (h43 : ∀ k : Fin 1024, v43 (ix2 k l) = ↑(∑ j, W ⟨k.val, by omega⟩ j * v j))
  (h46 : ∀ k : Fin 1024, v46 (ix2 k l) = ↑(∑ j, W ⟨1024 + k.val, by omega⟩ j * v j))
  (h60 : v60 (ix2 0 l) = ↑(∑ k, ∑ j, W k j * v j))
include h43 h46 h60

theorem pay12_at : k1_pay12 (F := Ideal) (k1_pay2 v0 v6) (k1_pay3 v9 v15) (k1_pay4 v0 v6 v9 v15) (k1_pay5 v0 v6 v9 v15) k1_pay6 v43 v46 v60 (ix2 i l)
      = ↑(∑ j, (∑ k, lnorm U k * W k j) * v j) := by
  pointwise [k1_pay12, k1_pay7, k1_pay8, k1_pay9, k1_pay10, k1_pay6]
  rw [pay4_at v0 v6 v9 v15 i U hP hX, pay5_at v0 v6 v9 v15 i U hP hX]
  simp only [hP, hX, h43, h46, h60, ← EReal.coe_mul]
  rw [coe_sum, coe_sum, ← EReal.coe_add, word_eps, ← EReal.coe_zero, coe_max, max_eq_left (vari_nonneg U), ← EReal.coe_add,
    rsqrt_real _ (vari_eps_pos U), ← EReal.coe_mul, ← EReal.coe_mul, ← EReal.coe_mul, ← EReal.coe_sub, ← sum_halves (fun k => U k * ∑ j, W k j * v j)]
  exact congrArg _ (folded U W v)

theorem pay11_at (v66 : Vec Ideal S1x64 .f32) : k1_pay11 (F := Ideal) (k1_pay2 v0 v6) (k1_pay3 v9 v15) (k1_pay4 v0 v6 v9 v15) (k1_pay5 v0 v6 v9 v15) k1_pay6 v43 v46 v60 v66 (ix2 i l)
      = ↑(∑ j, (∑ k, lnorm U k * W k j) * v j) + v66 (ix2 0 l) := by
  pointwise [k1_pay11, k1_pay7, k1_pay8, k1_pay9, k1_pay10, k1_pay6]
  rw [pay4_at v0 v6 v9 v15 i U hP hX, pay5_at v0 v6 v9 v15 i U hP hX]
  simp only [hP, hX, h43, h46, h60, ← EReal.coe_mul]
  rw [coe_sum, coe_sum, ← EReal.coe_add, word_eps, ← EReal.coe_zero, coe_max, max_eq_left (vari_nonneg U), ← EReal.coe_add,
    rsqrt_real _ (vari_eps_pos U), ← EReal.coe_mul, ← EReal.coe_mul, ← EReal.coe_mul, ← EReal.coe_sub, ← sum_halves (fun k => U k * ∑ j, W k j * v j)]
  exact congrArg (fun r : ℝ => (r : EReal) + _) (folded U W v)

end Row

theorem pick (c : Fin 1024) (g : Fin 64 → ℝ) : ∑ l : Fin 64, g l * (if l.val = c.val % 64 then 1 else 0) = g ⟨c.val % 64, by omega⟩ := by
  rw [Finset.sum_eq_single (⟨c.val % 64, by omega⟩ : Fin 64)]
  · simp
  · intro l _ hne
    rw [if_neg fun e => hne (Fin.ext e), mul_zero]
  · simp

/-- A softmax over groups of four, as the quotient by the product with the table of groups. -/
theorem soft_at (w : Fin 64 → ℝ) (M : ℝ) (l : Fin 64) :
    Ideal.div (Ideal.exp (↑(w l) - ↑M)) (∑ x : Fin 64, Ideal.exp (↑(w x) - ↑M) * ((if x.val / 4 = l.val / 4 then 1 else 0 : ℝ) : EReal))
      = ↑(soft w ⟨l.val / 4, by omega⟩ ⟨l.val % 4, by omega⟩) := by
  have e : l = col ⟨l.val / 4, by omega⟩ ⟨l.val % 4, by omega⟩ := Fin.ext (by simp only [col]; omega)
  generalize (⟨l.val / 4, by omega⟩ : Fin 16) = h at e
  generalize (⟨l.val % 4, by omega⟩ : Fin 4) = p at e
  subst e
  have hpos : ∑ q, Real.exp (w (col h q) - M) ≠ 0 :=
    (Finset.sum_pos (fun q _ => Real.exp_pos _) ⟨0, Finset.mem_univ _⟩).ne'
  simp only [← EReal.coe_sub, Ideal.exp_coe, ← EReal.coe_mul]
  rw [coe_sum, sum_group (fun x => Real.exp (w x - M)) h p, div_real _ _ hpos, soft_shift]

section Last

variable (A : Args) (b : Fin 2) (n : Fin 4096) (v69 v77 : FVec Ideal S1024x64 .f32) (v78 : Vec Ideal S1x64 .f32) (v87 : Vec Ideal S64x64 .f32) (v93 : Vec Ideal S1x64 .f32)
    (v96 v98 : Vec Ideal S64x1024 .f32) (v100 : Vec Ideal S1x1024 .f32) (v110 : Vec Ideal S1x1024x1024 .bf16) (i d : Fin 1024)

theorem pay13_eq : k1_pay13 v69 v77 v78 v87 v93 v96 v98 v100 v110 (ix2 i d)
    = ∑ c : Fin 1024, (∑ l : Fin 64, Ideal.div (Ideal.exp (v77 (ix2 i l) + v78 (ix2 0 l) - Finset.fold max (Ideal.ofBits FTy.f32 0xFF800000#32) (fun x => v77 (ix2 i x) + v78 (ix2 0 x)) Finset.univ))
          (∑ x : Fin 64, Ideal.exp (v77 (ix2 i x) + v78 (ix2 0 x) - Finset.fold max (Ideal.ofBits FTy.f32 0xFF800000#32) (fun x => v77 (ix2 i x) + v78 (ix2 0 x)) Finset.univ) * v87 (ix2 x l)) * v98 (ix2 l c))
        * max (1 - FloatOps.absf (F := Ideal) (φ := .f32) (∑ l : Fin 64, (v93 (ix2 0 l) + Ideal.tanh (v69 (ix2 i l)) * Ideal.ofBits FTy.f32 0x40800000#32) * v96 (ix2 l c) - v100 (ix2 0 c))) 0
        * v110 (ix3 0 c d) := by
  pointwise [k1_pay13]

theorem pay13_at
    (h69 : ∀ l, v69 (ix2 i l) = A.dr b n l) (h81 : ∀ l, v77 (ix2 i l) + v78 (ix2 0 l) = ↑(A.wl b n l))
    (h87 : ∀ l' l : Fin 64, v87 (ix2 l' l) = ↑(if l'.val / 4 = l.val / 4 then 1 else 0 : ℝ))
    (h93 : ∀ l : Fin 64, v93 (ix2 0 l) = ↑((l.val % 4 : ℕ) - 3 / 2 : ℝ))
    (h96 : ∀ (l : Fin 64) (c : Fin 1024), v96 (ix2 l c) = ↑(if l.val = c.val % 64 then 1 else 0 : ℝ))
    (h98 : ∀ (l : Fin 64) (c : Fin 1024), v98 (ix2 l c) = ↑(if l.val = c.val % 64 then 1 else 0 : ℝ))
    (h100 : ∀ c : Fin 1024, v100 (ix2 0 c) = ↑((c.val / 64 : ℕ) - 15 / 2 : ℝ))
    (h110 : ∀ c : Fin 1024, v110 (ix3 0 c d) = ∑ k : Fin 1024, (if c.val % 64 / 4 = k.val / 64 then A.val b (rowOf (c.val / 64)) k else 0) * (A.Wo k d : EReal)) :
    k1_pay13 v69 v77 v78 v87 v93 v96 v98 v100 v110 (ix2 i d) = A.out b n d := by
  have hx : ∀ l : Fin 64, A.posl b n l = ((l.val % 4 : ℕ) - 3 / 2 : ℝ) + A.th b n l * 4 := fun l => rfl
  obtain ⟨M, hM⟩ := fold_max (n := 64) (by norm_num) (A.wl b n)
  have term : ∀ c : Fin 1024, (∑ l : Fin 64, Ideal.div (Ideal.exp (v77 (ix2 i l) + v78 (ix2 0 l) - Finset.fold max (Ideal.ofBits FTy.f32 0xFF800000#32) (fun x => v77 (ix2 i x) + v78 (ix2 0 x)) Finset.univ))
          (∑ x : Fin 64, Ideal.exp (v77 (ix2 i x) + v78 (ix2 0 x) - Finset.fold max (Ideal.ofBits FTy.f32 0xFF800000#32) (fun x => v77 (ix2 i x) + v78 (ix2 0 x)) Finset.univ) * v87 (ix2 x l)) * v98 (ix2 l c))
        * max (1 - FloatOps.absf (F := Ideal) (φ := .f32) (∑ l : Fin 64, (v93 (ix2 0 l) + Ideal.tanh (v69 (ix2 i l)) * Ideal.ofBits FTy.f32 0x40800000#32) * v96 (ix2 l c) - v100 (ix2 0 c))) 0
        * v110 (ix3 0 c d)
      = ((soft (A.wl b n) ⟨c.val % 64 / 4, by omega⟩ ⟨c.val % 64 % 4, by omega⟩
        * max (1 - |A.posl b n ⟨c.val % 64, by omega⟩ - ((c.val / 64 : ℕ) - 15 / 2)|) 0 : ℝ) : EReal)
        * (∑ k : Fin 1024, (if c.val % 64 / 4 = k.val / 64 then A.val b (rowOf (c.val / 64)) k else 0) * (A.Wo k d : EReal)) := by
    intro c
    rw [h110 c]
    generalize (∑ k : Fin 1024, (if c.val % 64 / 4 = k.val / 64 then A.val b (rowOf (c.val / 64)) k else 0) * (A.Wo k d : EReal)) = y
    have e1 : ∑ l : Fin 64, (v93 (ix2 0 l) + Ideal.tanh (v69 (ix2 i l)) * Ideal.ofBits FTy.f32 0x40800000#32) * v96 (ix2 l c)
        = ↑(A.posl b n ⟨c.val % 64, by omega⟩) := by
      rw [← pick c (A.posl b n), ← coe_sum]
      refine Finset.sum_congr rfl fun l _ => ?_
      rw [h93, h69, A.tanh_coe_th, word_4, h96, hx, ← EReal.coe_mul, ← EReal.coe_add, ← EReal.coe_mul]
    have e2 : ∑ l : Fin 64, Ideal.div (Ideal.exp (v77 (ix2 i l) + v78 (ix2 0 l) - Finset.fold max (Ideal.ofBits FTy.f32 0xFF800000#32) (fun x => v77 (ix2 i x) + v78 (ix2 0 x)) Finset.univ))
          (∑ x : Fin 64, Ideal.exp (v77 (ix2 i x) + v78 (ix2 0 x) - Finset.fold max (Ideal.ofBits FTy.f32 0xFF800000#32) (fun x => v77 (ix2 i x) + v78 (ix2 0 x)) Finset.univ) * v87 (ix2 x l)) * v98 (ix2 l c)
        = ↑(soft (A.wl b n) ⟨c.val % 64 / 4, by omega⟩ ⟨c.val % 64 % 4, by omega⟩) := by
      rw [← pick c (fun l => soft (A.wl b n) ⟨l.val / 4, by omega⟩ ⟨l.val % 4, by omega⟩), ← coe_sum]
      refine Finset.sum_congr rfl fun l _ => ?_
      simp only [h81, word_bot, hM, h87]
      rw [soft_at, h98, ← EReal.coe_mul]
    rw [e1, e2, h100, ← EReal.coe_sub, absf_real, ← EReal.coe_one, ← EReal.coe_zero, ← EReal.coe_sub, coe_max, ← EReal.coe_mul]
  rw [pay13_eq, Finset.sum_congr rfl (fun c _ => term c), sum_wcols, ← core]
  refine Finset.sum_congr rfl fun r _ => Finset.sum_congr rfl fun l _ => ?_
  have e1 : (wcol r l).val % 64 = l.val := by simp only [wcol]; omega
  have e2 : (wcol r l).val / 64 = r.val := by simp only [wcol]; omega
  simp only [e1, e2]

end Last

theorem out_at (A : Args) (b : Fin 2) (n : Fin 4096) (i d : Fin 1024)
    (x0 x1 : Vec Ideal S1x1024x1024 .f32) (x2 : Vec Ideal S2x1024 .f32) (x3 x4 : Vec Ideal S2048x64 .bf16) (x5 x6 : Vec Ideal S1x128 .f32)
    (x7 : Vec Ideal S1x64 .f32) (x8 : Vec Ideal S64x64 .f32) (x9 : Vec Ideal S64x1024 .f32) (x10 : Vec Ideal S1x1024 .f32) (x11 : Vec Ideal S1x1024x1024 .bf16)
    (h0 : ∀ k, ↑(EReal.toReal (x0 (ix3 0 i k))) + x2 (ix2 1 k) = ↑(A.xr b n k))
    (h1 : ∀ k, ↑(EReal.toReal (x1 (ix3 0 i k))) + x2 (ix2 0 k) = ↑(A.pr b n k))
    (h3 : ∀ (k : Fin 2048) (l : Fin 64), x3 (ix2 k l) = ↑(∑ j, A.Wq k j * A.Wd j l))
    (h4 : ∀ (k : Fin 2048) (l : Fin 64), x4 (ix2 k l) = ↑(∑ j, A.Wq k j * A.Ww j l))
    (h5 : ∀ l : Fin 64, x5 (ix2 0 ⟨l.val, by omega⟩) = ↑(∑ k, ∑ j, A.Wq k j * A.Wd j l))
    (h5' : ∀ l : Fin 64, x5 (ix2 0 ⟨64 + l.val, by omega⟩) = ↑(∑ k, ∑ j, A.Wq k j * A.Ww j l))
    (h6 : ∀ l : Fin 64, x6 (ix2 0 ⟨l.val, by omega⟩) = A.bd l)
    (h6' : ∀ l : Fin 64, x6 (ix2 0 ⟨64 + l.val, by omega⟩) = ↑(A.bw l))
    (h7 : ∀ l : Fin 64, x7 (ix2 0 l) = ↑((l.val % 4 : ℕ) - 3 / 2 : ℝ))
    (h8 : ∀ l' l : Fin 64, x8 (ix2 l' l) = ↑(if l'.val / 4 = l.val / 4 then 1 else 0 : ℝ))
    (h9 : ∀ (l : Fin 64) (c : Fin 1024), x9 (ix2 l c) = ↑(if l.val = c.val % 64 then 1 else 0 : ℝ))
    (h10 : ∀ c : Fin 1024, x10 (ix2 0 c) = ↑((c.val / 64 : ℕ) - 15 / 2 : ℝ))
    (h11 : ∀ c : Fin 1024, x11 (ix3 0 c d) = ∑ k : Fin 1024, (if c.val % 64 / 4 = k.val / 64 then A.val b (rowOf (c.val / 64)) k else 0) * (A.Wo k d : EReal)) :
    out1_12 x0 x1 x2 x3 x4 x5 x6 x7 x8 x9 x10 x11 (ix3 0 i d) = A.out b n d := by
  have hz3 : (![0, 0, 0] : Fin 3 → Nat) = fun _ => 0 := funext fun a => by fin_cases a <;> rfl
  have hz2 : (![0, 0] : Fin 2 → Nat) = fun _ => 0 := funext fun a => by fin_cases a <;> rfl
  unfold out1_12
  rw [View.canon_unit_zero hz3]
  have hw : ∀ k : Fin 1024, A.wide b n ⟨k.val, by omega⟩ = A.pr b n k := fun k => by simp [Args.wide]
  have hw' : ∀ k : Fin 1024, A.wide b n ⟨1024 + k.val, by omega⟩ = A.xr b n k := fun k => by simp [Args.wide]
  have e1 : ∀ k : Fin 1024, View.ld x2 r1_1 (ix2 0 k) = x2 (ix2 0 k) := fun k =>
    View.ld_unit_apply_of _ _ _ _ _ _ fun a => by fin_cases a <;> simp
  have e2 : ∀ k : Fin 1024, View.ld x2 r1_2 (ix2 0 k) = x2 (ix2 1 k) := fun k =>
    View.ld_unit_apply_of _ _ _ _ _ _ fun a => by fin_cases a <;> simp
  have hP : ∀ k : Fin 1024, k1_pay2 (F := Ideal) (View.ld x1 r1_0) (View.ld x2 r1_1) (ix2 i k) = ↑(A.wide b n ⟨k.val, by omega⟩) := fun k => by
    rw [pay2_at, View.ld_unit_zero hz3, e1, h1, hw]
  have hX : ∀ k : Fin 1024, k1_pay3 (F := Ideal) (View.ld x0 r1_0) (View.ld x2 r1_2) (ix2 i k) = ↑(A.wide b n ⟨1024 + k.val, by omega⟩) := fun k => by
    rw [pay3_at, View.ld_unit_zero hz3, e2, h0, hw']
  have lo : ∀ (x : Vec Ideal S2048x64 .bf16) (k : Fin 1024) (l : Fin 64), View.ld x r1_3 (ix2 k l) = x (ix2 ⟨k.val, by omega⟩ l) := fun x k l =>
    View.ld_unit_apply_of _ _ _ _ _ _ fun a => by fin_cases a <;> simp
  have hi : ∀ (x : Vec Ideal S2048x64 .bf16) (k : Fin 1024) (l : Fin 64), View.ld x r1_4 (ix2 k l) = x (ix2 ⟨1024 + k.val, by omega⟩ l) := fun x k l =>
    View.ld_unit_apply_of _ _ _ _ _ _ fun a => by fin_cases a <;> simp
  have bl : ∀ (x : Vec Ideal S1x128 .f32) (l : Fin 64), View.ld x r1_5 (ix2 0 l) = x (ix2 0 ⟨l.val, by omega⟩) := fun x l =>
    View.ld_unit_apply_of _ _ _ _ _ _ fun a => by fin_cases a <;> simp
  have bh : ∀ (x : Vec Ideal S1x128 .f32) (l : Fin 64), View.ld x r1_6 (ix2 0 l) = x (ix2 0 ⟨64 + l.val, by omega⟩) := fun x l =>
    View.ld_unit_apply_of _ _ _ _ _ _ fun a => by fin_cases a <;> simp
  pointwise [k1_pay1]
  refine pay13_at A b n _ _ _ _ _ _ _ _ _ i d (fun l => ?_) (fun l => ?_) ?_ ?_ ?_ ?_ ?_ ?_
  · refine (pay11_at _ _ _ _ i (A.wide b n) hP hX _ _ _ l A.Wq (fun j => A.Wd j l) (fun k => ?_) (fun k => ?_) ?_ _).trans ?_
    · rw [lo, h3]
    · rw [hi, h3]
    · rw [bl, h5]
    · rw [bl, h6]; rfl
  · refine (congrArg (· + _) (pay12_at _ _ _ _ i (A.wide b n) hP hX _ _ _ l A.Wq (fun j => A.Ww j l) (fun k => ?_) (fun k => ?_) ?_)).trans ?_
    · rw [lo, h4]
    · rw [hi, h4]
    · rw [bh, h5']
    · rw [bh, h6', ← EReal.coe_add]; rfl
  · rw [View.ld_unit_zero hz2]; exact h8
  · rw [View.ld_unit_zero hz2]; exact h7
  · rw [View.ld_unit_zero hz2]; exact h9
  · rw [View.ld_unit_zero hz2]; exact h9
  · rw [View.ld_unit_zero hz2]; exact h10
  · rw [View.ld_unit_zero hz3]; exact h11

end Cert.Block

end
-- ==== Proof.Arrays.lean ====
module

public import proofs.«01_k».proof.Proof.Table
public import proofs.«01_k».proof.Proof.Block
public import proofs.«01_k».proof.Proof.WholeRun
public import Idealize.ShloMosaic.Lib.Pipeline.ValueKit

@[expose] public section

/-! From the blocks of the two calls to their whole arrays. -/

set_option maxRecDepth 16384

noncomputable section

namespace Cert.Arrays

open Cert.KernelIdeal Cert.KernelIdeal.Gen Cert.Spec Cert.Coe Cert.Table Idealize.ShloMosaic Idealize.ShloMosaic.TcCoe Idealize.SL.Sem

variable (V : (c : Dev nD) → (b : Ref sig .tc) → Buf (Elt Ideal) ((c : Thread nD τ).loc b)) (c : Dev nD)

/-- Where each block of the first call lies. -/
theorem idx0 : ∀ t : Fin cfg0.N, win0_0.index t = ![t.val, 511, 0] ∧ win0_1.index t = ![t.val, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0, 0]
    ∧ win0_12.index t = ![0, 0] ∧ win0_13.index t = ![0, 0] ∧ win0_14.index t = ![0, 0] := by decide +kernel

/-- Where each block of the second call lies. -/
theorem idx1 : ∀ t : Fin cfg1.N, win1_0.index t = ![t.val / 4, t.val % 4, 0] ∧ win1_1.index t = ![t.val / 4, t.val % 4, 0] ∧ win1_2.index t = ![0, 0]
    ∧ win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![0, 0] ∧ win1_10.index t = ![0, 0] ∧ win1_11.index t = ![t.val / 4, 0, 0]
    ∧ win1_12.index t = ![t.val / 4, t.val % 4, 0] := by decide +kernel

theorem two (t : Fin cfg0.N) : t.val < 2 := Nat.lt_of_lt_of_eq t.isLt N_0
theorem eight (t : Fin cfg1.N) : t.val < 8 := Nat.lt_of_lt_of_eq t.isLt N_1

theorem blk0_0 (t : Fin cfg0.N) (b : Fin 2) (hb : b.val = t.val) (r : Fin 8) (j : Fin 1024) :
    iblk0 (F := Ideal) V c 0 t (ix3 0 r j) = V c main_arg1 (ix3 b (⟨4088 + r.val, by omega⟩ : Fin 4096) j) := by
  blk_ext [iblk0, idx0]

theorem blk0_1 (t : Fin cfg0.N) (b : Fin 2) (hb : b.val = t.val) (r : Fin 8) (j : Fin 1024) :
    iblk0 (F := Ideal) V c 1 t (ix3 0 r j) = V c main_arg0 (ix3 b (⟨r.val, by omega⟩ : Fin 4096) j) := by
  blk_ext [iblk0, idx0]

theorem blk0_2 (t : Fin cfg0.N) (r : Fin 2) (j : Fin 1024) : iblk0 (F := Ideal) V c 2 t (ix2 r j) = V c main_arg2 (ix2 r j) := by
  blk_ext [iblk0, idx0]

theorem blk0_3 (t : Fin cfg0.N) (r : Fin 1) (j : Fin 1024) : iblk0 (F := Ideal) V c 3 t (ix2 r j) = V c main_v2 (ix2 r j) := by
  blk_ext [iblk0, idx0]

theorem blk0_4 (t : Fin cfg0.N) (r : Fin 1) (j : Fin 1024) : iblk0 (F := Ideal) V c 4 t (ix2 r j) = V c main_v3 (ix2 r j) := by
  blk_ext [iblk0, idx0]

theorem blk0_5 (t : Fin cfg0.N) (r : Fin 1024) (j : Fin 1024) : iblk0 (F := Ideal) V c 5 t (ix2 r j) = V c main_arg9 (ix2 r j) := by
  blk_ext [iblk0, idx0]

theorem blk0_6 (t : Fin cfg0.N) (r : Fin 1024) (j : Fin 1024) : iblk0 (F := Ideal) V c 6 t (ix2 r j) = V c main_arg17 (ix2 r j) := by
  blk_ext [iblk0, idx0]

theorem blk0_7 (t : Fin cfg0.N) (r : Fin 1024) (j : Fin 256) : iblk0 (F := Ideal) V c 7 t (ix2 r j) = V c main_v16 (ix2 r j) := by
  blk_ext [iblk0, idx0]

theorem blk0_8 (t : Fin cfg0.N) (r : Fin 2048) (j : Fin 1024) : iblk0 (F := Ideal) V c 8 t (ix2 r j) = V c main_arg7 (ix2 r j) := by
  blk_ext [iblk0, idx0]

theorem blk0_9 (t : Fin cfg0.N) (r : Fin 1024) (j : Fin 64) : iblk0 (F := Ideal) V c 9 t (ix2 r j) = V c main_arg13 (ix2 r j) := by
  blk_ext [iblk0, idx0]

theorem blk0_10 (t : Fin cfg0.N) (r : Fin 1024) (j : Fin 64) : iblk0 (F := Ideal) V c 10 t (ix2 r j) = V c main_arg15 (ix2 r j) := by
  blk_ext [iblk0, idx0]

theorem blk1_0 (t : Fin cfg1.N) (b : Fin 2) (hb : b.val = t.val / 4) (i : Fin 1024) (n : Fin 4096) (hn : n.val = 1024 * (t.val % 4) + i.val) (j : Fin 1024) :
    iblk1 (F := Ideal) V c 0 t (ix3 0 i j) = V c main_arg0 (ix3 b n j) := by
  blk_ext [iblk1, idx1]

theorem blk1_1 (t : Fin cfg1.N) (b : Fin 2) (hb : b.val = t.val / 4) (i : Fin 1024) (n : Fin 4096) (hn : n.val = 1024 * (t.val % 4) + i.val) (j : Fin 1024) :
    iblk1 (F := Ideal) V c 1 t (ix3 0 i j) = V c main_arg1 (ix3 b n j) := by
  blk_ext [iblk1, idx1]

theorem blk1_2 (t : Fin cfg1.N) (r : Fin 2) (j : Fin 1024) : iblk1 (F := Ideal) V c 2 t (ix2 r j) = V c main_arg2 (ix2 r j) := by
  blk_ext [iblk1, idx1]

theorem blk1_3 (t : Fin cfg1.N) (r : Fin 2048) (j : Fin 64) : iblk1 (F := Ideal) V c 3 t (ix2 r j) = V c main_v17_1 (ix2 r j) := by
  blk_ext [iblk1, idx1]

theorem blk1_4 (t : Fin cfg1.N) (r : Fin 2048) (j : Fin 64) : iblk1 (F := Ideal) V c 4 t (ix2 r j) = V c main_v17_2 (ix2 r j) := by
  blk_ext [iblk1, idx1]

theorem blk1_5 (t : Fin cfg1.N) (r : Fin 1) (j : Fin 128) : iblk1 (F := Ideal) V c 5 t (ix2 r j) = V c main_v17_3 (ix2 r j) := by
  blk_ext [iblk1, idx1]

theorem blk1_6 (t : Fin cfg1.N) (r : Fin 1) (j : Fin 128) : iblk1 (F := Ideal) V c 6 t (ix2 r j) = V c main_v20 (ix2 r j) := by
  blk_ext [iblk1, idx1]

theorem blk1_7 (t : Fin cfg1.N) (r : Fin 1) (j : Fin 64) : iblk1 (F := Ideal) V c 7 t (ix2 r j) = V c main_v0 (ix2 r j) := by
  blk_ext [iblk1, idx1]

theorem blk1_8 (t : Fin cfg1.N) (r : Fin 64) (j : Fin 64) : iblk1 (F := Ideal) V c 8 t (ix2 r j) = V c main_cst_0 (ix2 r j) := by
  blk_ext [iblk1, idx1]

theorem blk1_9 (t : Fin cfg1.N) (r : Fin 64) (j : Fin 1024) : iblk1 (F := Ideal) V c 9 t (ix2 r j) = V c main_cst_1 (ix2 r j) := by
  blk_ext [iblk1, idx1]

theorem blk1_10 (t : Fin cfg1.N) (r : Fin 1) (j : Fin 1024) : iblk1 (F := Ideal) V c 10 t (ix2 r j) = V c main_v1 (ix2 r j) := by
  blk_ext [iblk1, idx1]

theorem blk1_11 (t : Fin cfg1.N) (b : Fin 2) (hb : b.val = t.val / 4) (i j : Fin 1024) :
    iblk1 (F := Ideal) V c 11 t (ix3 0 i j) = V c main_v17_0 (ix3 b i j) := by
  blk_ext [iblk1, idx1]

/-- The first point of the first call. -/
def pt0 : Fin cfg0.N := ⟨0, by decide⟩

/-- The table the first call leaves, as an array. -/
def G (A : Args) : Vec Ideal S2x1024x1024 .bf16 := fun i =>
  ∑ k : Fin 1024, (if (i 1).val % 64 / 4 = k.val / 64 then A.val (i 0) (rowOf ((i 1).val / 64)) k else 0) * (A.Wo k (i 2) : EReal)

/-- What the first call is given, in real numbers. -/
structure Given (A : Args) : Prop where
  pr : ∀ b n j, ((EReal.toReal (V c main_arg1 (ix3 b n j)) : ℝ) : EReal) + V c main_arg2 (ix2 0 j) = ↑(A.pr b n j)
  xr : ∀ b n j, ((EReal.toReal (V c main_arg0 (ix3 b n j)) : ℝ) : EReal) + V c main_arg2 (ix2 1 j) = ↑(A.xr b n j)
  gm : ∀ j, V c main_v2 (ix2 0 j) = ((A.gm j : ℝ) : EReal)
  bm : ∀ j, V c main_v3 (ix2 0 j) = A.bm j
  Wv : ∀ j k, V c main_arg9 (ix2 j k) = ((A.Wv j k : ℝ) : EReal)
  Wo : ∀ j k, V c main_arg17 (ix2 j k) = ((A.Wo j k : ℝ) : EReal)
  E : ∀ (r : Fin 1024) (i : Fin 256), V c main_v16 (ix2 r i) = ((if i.val = 16 * (r.val % 64 / 4) + r.val / 64 then (1 : ℝ) else 0 : ℝ) : EReal)
  Wq : ∀ k j, V c main_arg7 (ix2 k j) = ((A.Wq k j : ℝ) : EReal)
  Wd : ∀ j l, V c main_arg13 (ix2 j l) = ((A.Wd j l : ℝ) : EReal)
  Ww : ∀ j l, V c main_arg15 (ix2 j l) = ((A.Ww j l : ℝ) : EReal)

variable {V c} {A : Args} (h : Given V c A)
include h

theorem table (t : Fin cfg0.N) (b : Fin 2) (hb : b.val = t.val) (r d : Fin 1024) :
    (outsAt0 (F := Ideal) V c t.val t.isLt).1 (ix3 0 r d)
      = ∑ k : Fin 1024, (if r.val % 64 / 4 = k.val / 64 then A.val b (rowOf (r.val / 64)) k else 0) * (A.Wo k d : EReal) := by
  have key : ∀ v : Vec Ideal S256x1024 .f32, (∀ (i : Fin 256) (k : Fin 1024), v (ix2 i k)
      = if i.val / 16 = k.val / 64 then Vt (iblk0 V c 0 t) (iblk0 V c 1 t) (iblk0 V c 2 t) (iblk0 V c 3 t) (iblk0 V c 4 t) (iblk0 V c 5 t) (ix2 ⟨i.val % 16, by omega⟩ k) else 0) →
      k0_pay3 (F := Ideal) v (iblk0 V c 6 t) (iblk0 V c 7 t) (ix3 0 r d) = ∑ k : Fin 1024, (if r.val % 64 / 4 = k.val / 64 then A.val b (rowOf (r.val / 64)) k else 0) * (A.Wo k d : EReal) := by
    intro v hv
    refine g_at v (fun i k => A.val b (rowOf i.val) k) A.Wo _ _ (fun i k => ?_) (fun j k => ?_) (fun r i => ?_) r d
    · rw [hv]
      split
      · refine val_at A b _ _ _ _ _ _ _ (fun hr j => ?_) (fun hr j => ?_) (fun j => ?_) (fun j => ?_) (fun j k => ?_) k
        · rw [blk0_0 V c t b hb, blk0_2, h.pr, Args.memrow, dif_pos (by show (4088 + i.val % 16) % 8192 < 4096; change i.val % 16 < 8 at hr; omega)]
          refine congrArg (fun n => ((A.pr b n j : ℝ) : EReal)) (Fin.ext ?_)
          show 4088 + i.val % 16 = (4088 + i.val % 16) % 8192
          omega
        · rw [blk0_1 V c t b hb, blk0_2, h.xr, Args.memrow, dif_neg (by show ¬(4088 + i.val % 16) % 8192 < 4096; change ¬i.val % 16 < 8 at hr; omega)]
          refine congrArg (fun n => ((A.xr b n j : ℝ) : EReal)) (Fin.ext ?_)
          show i.val % 16 - 8 = (4088 + i.val % 16) % 8192 - 4096
          omega
        · rw [blk0_3, h.gm]
        · rw [blk0_4, h.bm]
        · rw [blk0_5, h.Wv]
      · rfl
    · rw [blk0_6, h.Wo]
    · rw [blk0_7, h.E]
  by_cases h0 : t.val % 2 = 0
  · rw [outsAt0_A V c t h0]
    dsimp only
    rw [form11A]
    exact key _ fun i k => scr c _ _ _ _ _ _ _ _ _ _ _ _ _ _ _ _ _ _ _ i k
  · rw [outsAt0_B V c t h0]
    dsimp only
    rw [form11B]
    exact key _ fun i k => scr c _ _ _ _ _ _ _ _ _ _ _ _ _ _ _ _ _ _ _ i k

theorem small (t : Fin cfg0.N) (k : Fin 2048) (l : Fin 64) :
    (outsAt0 (F := Ideal) V c t.val t.isLt).2.1 (ix2 k l) = ↑(∑ j, A.Wq k j * A.Wd j l)
    ∧ (outsAt0 (F := Ideal) V c t.val t.isLt).2.2.1 (ix2 k l) = ↑(∑ j, A.Wq k j * A.Ww j l)
    ∧ (outsAt0 (F := Ideal) V c t.val t.isLt).2.2.2 (ix2 0 (⟨l.val, by omega⟩ : Fin 128)) = ↑(∑ k, ∑ j, A.Wq k j * A.Wd j l)
    ∧ (outsAt0 (F := Ideal) V c t.val t.isLt).2.2.2 (ix2 0 (⟨64 + l.val, by omega⟩ : Fin 128)) = ↑(∑ k, ∑ j, A.Wq k j * A.Ww j l) := by
  by_cases h0 : t.val % 2 = 0
  · rw [outsAt0_A V c t h0]
    dsimp only
    rw [form12A, form13A, form14A_lo, form14A_hi, pay6_at, pay7_at, pay8_at, pay9_at]
    simp only [blk0_8, blk0_9, blk0_10, h.Wq, h.Wd, h.Ww, ← EReal.coe_mul, coe_sum, and_self]
  · have ht : t.val = 1 := by have := two t; omega
    rw [outsAt0_B V c t h0]
    unfold out0_B_12 out0_B_13 out0_B_14
    dsimp only
    have e : outsAt0 (F := Ideal) V c (t.val - 1) (Nat.lt_of_le_of_lt (Nat.sub_le _ _) t.isLt) = outsAt0 (F := Ideal) V c pt0.val pt0.isLt := by
      have ht' : t.val - 1 = pt0.val := by show t.val - 1 = 0; omega
      simp only [ht']
    rw [e, outsAt0_A V c pt0 rfl]
    dsimp only
    rw [form12A, form13A, form14A_lo, form14A_hi, pay6_at, pay7_at, pay8_at, pay9_at]
    simp only [blk0_8, blk0_9, blk0_10, h.Wq, h.Wd, h.Ww, ← EReal.coe_mul, coe_sum, and_self]

theorem arr11 : (dat0 (F := Ideal) V c).arrAt 11 cfg0.N = G A := by
  refine (dat0 (F := Ideal) V c).arrAt_eq_of_covers 11 (G A) (by decide +kernel) fun t hf y => ?_
  blk_simp
  rw [after0_11]
  have e : (y : S1x1024x1024.Idx) = ix3 (0 : Fin 1) (y 1) (y 2) := by
    refine (eq_ix3 _).trans ?_
    have h0 : (y 0).val < 1 := (y 0).isLt
    exact congrArg (fun z : Fin 1 => ix3 z (y 1) (y 2)) (Fin.ext (show (y 0).val = 0 by omega))
  have e' : (win0_11.blk t).view.emb y = ix3 (⟨t.val, two t⟩ : Fin 2) (y 1) (y 2) := by
    blk_ext [idx0]
  rw [e']
  exact (congrArg _ e).trans (table h t ⟨t.val, two t⟩ rfl (y 1) (y 2))

omit h in
theorem arr12 : (dat0 (F := Ideal) V c).arrAt 12 cfg0.N = (outsAt0 (F := Ideal) V c 1 (by decide)).2.1 := by
  refine (dat0 (F := Ideal) V c).arrAt_eq_of_covers 12 _ (by decide +kernel) fun t hf y => ?_
  have ht : t.val = 1 := by have := (flush0_12 t).mp hf; have := two t; omega
  blk_simp
  rw [after0_12]
  have e' : (win0_12.blk t).view.emb y = y := by
    blk_ext [idx0]
  rw [e']
  simp only [ht]

omit h in
theorem arr13 : (dat0 (F := Ideal) V c).arrAt 13 cfg0.N = (outsAt0 (F := Ideal) V c 1 (by decide)).2.2.1 := by
  refine (dat0 (F := Ideal) V c).arrAt_eq_of_covers 13 _ (by decide +kernel) fun t hf y => ?_
  have ht : t.val = 1 := by have := (flush0_13 t).mp hf; have := two t; omega
  blk_simp
  rw [after0_13]
  have e' : (win0_13.blk t).view.emb y = y := by
    blk_ext [idx0]
  rw [e']
  simp only [ht]

omit h in
theorem arr14 : (dat0 (F := Ideal) V c).arrAt 14 cfg0.N = (outsAt0 (F := Ideal) V c 1 (by decide)).2.2.2 := by
  refine (dat0 (F := Ideal) V c).arrAt_eq_of_covers 14 _ (by decide +kernel) fun t hf y => ?_
  have ht : t.val = 1 := by have := (flush0_14 t).mp hf; have := two t; omega
  blk_simp
  rw [after0_14]
  have e' : (win0_14.blk t).view.emb y = y := by
    blk_ext [idx0]
  rw [e']
  simp only [ht]

end Cert.Arrays

end
-- ==== Proof.Second.lean ====
module

public import proofs.«01_k».proof.Proof.Arrays
public import Idealize.ShloMosaic.Lib.Pipeline.ValueKit

@[expose] public section

/-! The whole array the second call leaves. -/

set_option maxRecDepth 16384

noncomputable section

namespace Cert.Arrays

open Cert.KernelIdeal Cert.KernelIdeal.Gen Cert.Spec Cert.Coe Cert.Table Idealize.ShloMosaic Idealize.ShloMosaic.TcCoe Idealize.SL.Sem

/-- What the second call is given, in real numbers. -/
structure Given2 (V : (c : Dev nD) → (b : Ref sig .tc) → Buf (Elt Ideal) ((c : Thread nD τ).loc b)) (c : Dev nD) (A : Args) : Prop where
  pr : ∀ (b : Fin 2) (n : Fin 4096) (j : Fin 1024), ((EReal.toReal (V c main_arg1 (ix3 b n j)) : ℝ) : EReal) + V c main_arg2 (ix2 0 j) = ↑(A.pr b n j)
  xr : ∀ (b : Fin 2) (n : Fin 4096) (j : Fin 1024), ((EReal.toReal (V c main_arg0 (ix3 b n j)) : ℝ) : EReal) + V c main_arg2 (ix2 1 j) = ↑(A.xr b n j)
  wd : ∀ (k : Fin 2048) (l : Fin 64), V c main_v17_1 (ix2 k l) = ((∑ j, A.Wq k j * A.Wd j l : ℝ) : EReal)
  ww : ∀ (k : Fin 2048) (l : Fin 64), V c main_v17_2 (ix2 k l) = ((∑ j, A.Wq k j * A.Ww j l : ℝ) : EReal)
  sd : ∀ l : Fin 64, V c main_v17_3 (ix2 0 (⟨l.val, by omega⟩ : Fin 128)) = ((∑ k, ∑ j, A.Wq k j * A.Wd j l : ℝ) : EReal)
  sw : ∀ l : Fin 64, V c main_v17_3 (ix2 0 (⟨64 + l.val, by omega⟩ : Fin 128)) = ((∑ k, ∑ j, A.Wq k j * A.Ww j l : ℝ) : EReal)
  bd : ∀ l : Fin 64, V c main_v20 (ix2 0 (⟨l.val, by omega⟩ : Fin 128)) = A.bd l
  bw : ∀ l : Fin 64, V c main_v20 (ix2 0 (⟨64 + l.val, by omega⟩ : Fin 128)) = ((A.bw l : ℝ) : EReal)
  base : ∀ l : Fin 64, V c main_v0 (ix2 0 l) = (((l.val % 4 : ℕ) - 3 / 2 : ℝ) : EReal)
  group : ∀ l' l : Fin 64, V c main_cst_0 (ix2 l' l) = ((if l'.val / 4 = l.val / 4 then 1 else 0 : ℝ) : EReal)
  rep : ∀ (l : Fin 64) (r : Fin 1024), V c main_cst_1 (ix2 l r) = ((if l.val = r.val % 64 then 1 else 0 : ℝ) : EReal)
  row : ∀ r : Fin 1024, V c main_v1 (ix2 0 r) = (((r.val / 64 : ℕ) - 15 / 2 : ℝ) : EReal)
  tab : V c main_v17_0 = G A

/-- The result, as an array. -/
def R (A : Args) : Vec Ideal S2x4096x1024 .f32 := fun i => A.out (i 0) (i 1) (i 2)

variable {V : (c : Dev nD) → (b : Ref sig .tc) → Buf (Elt Ideal) ((c : Thread nD τ).loc b)} {c : Dev nD} {A : Args} (h : Given2 V c A)
include h

theorem point (t : Fin cfg1.grid.N) (b : Fin 2) (hb : b.val = t.val / 4) (i d : Fin 1024) (n : Fin 4096) (hn : n.val = 1024 * (t.val % 4) + i.val) :
    out1_12 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (iblk1 V c 11 t) (ix3 0 i d) = A.out b n d := by
  refine Block.out_at A b n i d _ _ _ _ _ _ _ _ _ _ _ _
    (fun k => ?_) (fun k => ?_) (fun k l => ?_) (fun k l => ?_) (fun l => ?_) (fun l => ?_) (fun l => ?_) (fun l => ?_) (fun l => ?_) (fun l' l => ?_)
    (fun l r => ?_) (fun r => ?_) (fun r => ?_)
  · rw [blk1_0 V c t b hb i n hn, blk1_2, h.xr]
  · rw [blk1_1 V c t b hb i n hn, blk1_2, h.pr]
  · rw [blk1_3, h.wd]
  · rw [blk1_4, h.ww]
  · rw [blk1_5, h.sd]
  · rw [blk1_5, h.sw]
  · rw [blk1_6, h.bd]
  · rw [blk1_6, h.bw]
  · rw [blk1_7, h.base]
  · rw [blk1_8, h.group]
  · rw [blk1_9, h.rep]
  · rw [blk1_10, h.row]
  · rw [blk1_11 V c t b hb, h.tab]; rfl

theorem arr1_12 : (dat1 (F := Ideal) V c).arrAt 12 cfg1.N = R A := by
  refine (dat1 (F := Ideal) V c).arrAt_eq_of_covers 12 (R A) (by decide +kernel) fun t hf y => ?_
  have ht := eight t
  blk_simp
  rw [after1_12]
  have e : (y : S1x1024x1024.Idx) = ix3 (0 : Fin 1) (y 1) (y 2) := by
    refine (eq_ix3 _).trans ?_
    have h0 : (y 0).val < 1 := (y 0).isLt
    exact congrArg (fun z : Fin 1 => ix3 z (y 1) (y 2)) (Fin.ext (show (y 0).val = 0 by omega))
  have hy : (y 1).val < 1024 := (y 1).isLt
  have e' : (win1_12.blk t).view.emb y = ix3 (⟨t.val / 4, by omega⟩ : Fin 2) (⟨1024 * (t.val % 4) + (y 1).val, by omega⟩ : Fin 4096) (y 2) := by
    blk_ext [idx1]
  rw [e']
  refine (congrArg _ e).trans ?_
  exact point h t (⟨t.val / 4, by omega⟩ : Fin 2) rfl (y 1) (y 2) (⟨1024 * (t.val % 4) + (y 1).val, by omega⟩ : Fin 4096) rfl

end Cert.Arrays

end
-- ==== Proof.RefLow.lean ====
module

public import proofs.«01_k».proof.Proof.Gen.ReferenceIdeal.Run
public import proofs.«01_k».proof.Proof.Spec
public import proofs.«01_k».proof.Proof.Coe
public import Idealize.ShloMosaic.Lib.Pointwise
public import Idealize.ShloMosaic.Lib.Claim
public import Idealize.ShloMosaic.Lib.Tactic.CleanTypes

@[expose] public section

/-! The reference's query and value tables, entry by entry, on real numbers. -/

set_option maxRecDepth 16384

noncomputable section

namespace Cert.Refer

open Cert.ReferenceIdeal Cert.ReferenceIdeal.Value Cert.Spec Cert.Coe Idealize.ShloMosaic Idealize.SL.Sem

/-- What the reference is given, in real numbers. -/
structure Given (V0 : Valuation τ sig (Elt Ideal)) (A : Args) : Prop where
  xr : ∀ (b : Fin 2) (n : Fin 4096) (j : Fin 1024), ((EReal.toReal (V0 (Proc.devRef .tc main_arg0) (ix3 b n j)) : ℝ) : EReal) + V0 (Proc.devRef .tc main_arg2) (ix2 (1 : Fin 2) j) = ↑(A.xr b n j)
  pr : ∀ (b : Fin 2) (n : Fin 4096) (j : Fin 1024), ((EReal.toReal (V0 (Proc.devRef .tc main_arg1) (ix3 b n j)) : ℝ) : EReal) + V0 (Proc.devRef .tc main_arg2) (ix2 (0 : Fin 2) j) = ↑(A.pr b n j)
  gq : ∀ k : Fin 2048, V0 (Proc.devRef .tc main_arg3) (ix1 k) = (1 : EReal)
  bq : ∀ k : Fin 2048, V0 (Proc.devRef .tc main_arg4) (ix1 k) = (0 : EReal)
  gm : ∀ j : Fin 1024, V0 (Proc.devRef .tc main_arg5) (ix1 j) = ((A.gm j : ℝ) : EReal)
  bm : ∀ j : Fin 1024, V0 (Proc.devRef .tc main_arg6) (ix1 j) = A.bm j
  Wq : ∀ (k : Fin 2048) (j : Fin 1024), V0 (Proc.devRef .tc main_arg7) (ix2 k j) = ((A.Wq k j : ℝ) : EReal)
  cq : ∀ j : Fin 1024, V0 (Proc.devRef .tc main_arg8) (ix1 j) = (0 : EReal)
  Wv : ∀ (k : Fin 1024) (j : Fin 1024), V0 (Proc.devRef .tc main_arg9) (ix2 k j) = ((A.Wv k j : ℝ) : EReal)
  cv : ∀ j : Fin 1024, V0 (Proc.devRef .tc main_arg10) (ix1 j) = (0 : EReal)
  Wr : ∀ (j : Fin 1024) (h : Fin 16), V0 (Proc.devRef .tc main_arg11) (ix2 j h) = (0 : EReal)
  br : ∀ h : Fin 16, V0 (Proc.devRef .tc main_arg12) (ix1 h) = (0 : EReal)
  Wd : ∀ (j : Fin 1024) (l : Fin 64), V0 (Proc.devRef .tc main_arg13) (ix2 j l) = ((A.Wd j l : ℝ) : EReal)
  bd : ∀ l : Fin 64, V0 (Proc.devRef .tc main_arg14) (ix1 l) = A.bd l
  Ww : ∀ (j : Fin 1024) (l : Fin 64), V0 (Proc.devRef .tc main_arg15) (ix2 j l) = ((A.Ww j l : ℝ) : EReal)
  bw : ∀ l : Fin 64, V0 (Proc.devRef .tc main_arg16) (ix1 l) = ((A.bw l : ℝ) : EReal)
  Wo : ∀ (k : Fin 1024) (d : Fin 1024), V0 (Proc.devRef .tc main_arg17) (ix2 k d) = ((A.Wo k d : ℝ) : EReal)
  bo : ∀ d : Fin 1024, V0 (Proc.devRef .tc main_arg18) (ix1 d) = (0 : EReal)

variable {V0 : Valuation τ sig (Elt Ideal)} {A : Args}

theorem word_top : Ideal.ofBits .f32 0x7F800000#32 = ⊤ := by
  simp [Ideal.ofBits, Ideal.ieee]
theorem zero_at (i : S_.Idx) : id (constant S_ FTy.f32 0x00000000#32 : FVec Ideal S_ .f32) i = (0 : EReal) := by
  show Ideal.ofBits .f32 0x00000000#32 = 0
  simp [Ideal.ofBits, Ideal.ieee]

/-- The reference's cleaning of an entry, with plus infinity put to `p`. -/
theorem cleaned (a p : EReal) (hp : p ≠ ⊥) : (if (if a = ⊤ then p else a) = ⊥ then (0 : EReal) else if a = ⊤ then p else a)
    = if a = ⊤ then p else ↑a.toReal := by
  induction a using EReal.rec with
  | bot => simp
  | top => simp [hp]
  | coe r => simp

theorem cleaned_zero (a : EReal) : (if (if a = ⊤ then (0 : EReal) else a) = ⊥ then (0 : EReal) else if a = ⊤ then 0 else a) = ↑a.toReal := by
  rw [cleaned a 0 (by simp)]
  split
  · subst_vars; simp
  · rfl

theorem v6_at (h : Given V0 A) (b : Fin 2) (n : Fin 4096) (j : Fin 1024) : res_main_v6 V0 (ix3 b n j) = ((A.xr b n j : ℝ) : EReal) := by
  rw [← h.xr]
  unfold res_main_v6 res_main_call0_v6 res_main_call0_v2
  generalize (V0 (Proc.devRef .tc main_arg0)) = x
  generalize (V0 (Proc.devRef .tc main_arg2)) = y
  clean_types
  pointwise
  simp only [ne_eq, not_true_eq_false, if_false, zero_at, word_top, word_bot]
  exact congrArg (· + y (ix2 1 j)) (cleaned_zero _)

theorem v11_at (h : Given V0 A) (b : Fin 2) (n : Fin 4096) (j : Fin 1024) : res_main_v11 V0 (ix3 b n j) = ((A.pr b n j : ℝ) : EReal) := by
  rw [← h.pr]
  unfold res_main_v11 res_main_call1_v6 res_main_call1_v2
  generalize (V0 (Proc.devRef .tc main_arg1)) = x
  generalize (V0 (Proc.devRef .tc main_arg2)) = y
  clean_types
  pointwise
  simp only [ne_eq, not_true_eq_false, if_false, zero_at, word_top, word_bot]
  exact congrArg (· + y (ix2 0 j)) (cleaned_zero _)

theorem v12_at (h : Given V0 A) (b : Fin 2) (n : Fin 4096) (k : Fin 2048) : res_main_v12 V0 (ix3 b n k) = ((A.wide b n k : ℝ) : EReal) := by
  unfold res_main_v12
  clean_types
  pointwise
  unfold Args.wide
  split
  · exact v11_at h b n _
  · exact v6_at h b n _

theorem v16_at (h : Given V0 A) (b : Fin 2) (n : Fin 4096) : res_main_v16 V0 (ix3 b n 0) = ((mean (A.wide b n) : ℝ) : EReal) := by
  unfold res_main_v16
  clean_types
  pointwise
  simp only [v12_at h]
  rw [coe_sum, word_2048, div_real _ _ (by norm_num)]
  unfold mean; norm_num

theorem v18_at (h : Given V0 A) (b : Fin 2) (n : Fin 4096) (k : Fin 2048) : res_main_v18 V0 (ix3 b n k) = ((A.wide b n k - mean (A.wide b n) : ℝ) : EReal) := by
  unfold res_main_v18
  clean_types
  pointwise
  rw [v12_at h, v16_at h, ← EReal.coe_sub]

theorem v65_at (h : Given V0 A) (b : Fin 2) (n : Fin 4096) (j : Fin 1024) : res_main_v65 V0 (ix3 b n j) = ((A.Q b n j : ℝ) : EReal) := by
  unfold res_main_v65
  clean_types
  pointwise
  simp only [v12_at h, v16_at h, v18_at h, h.gq, h.bq, h.Wq, h.cq, ← EReal.coe_mul, ← EReal.coe_sub]
  rw [coe_sum, word_2048, div_real _ _ (by norm_num)]
  have hv : (∑ k, (A.wide b n k - mean (A.wide b n)) * (A.wide b n k - mean (A.wide b n))) / 2048 = vari (A.wide b n) := by rw [vari]; norm_num
  rw [hv, word_eps, ← EReal.coe_add, rsqrt_real _ (vari_eps_pos _)]
  simp only [mul_one, add_zero, ← EReal.coe_mul, coe_sum]
  rfl

theorem v37_at (h : Given V0 A) (b : Fin 2) (R : Fin 8192) (j : Fin 1024) : res_main_v37 V0 (ix3 b R j) = ((A.memrow b R j : ℝ) : EReal) := by
  unfold res_main_v37
  clean_types
  pointwise
  unfold Args.memrow
  split
  · exact v11_at h b _ _
  · exact v6_at h b _ _

theorem v41_at (h : Given V0 A) (b : Fin 2) (R : Fin 8192) : res_main_v41 V0 (ix3 b R 0) = ((mean (A.memrow b R) : ℝ) : EReal) := by
  unfold res_main_v41
  clean_types
  pointwise
  simp only [v37_at h]
  rw [coe_sum, word_1024, div_real _ _ (by norm_num)]
  unfold mean; norm_num

theorem v43_at (h : Given V0 A) (b : Fin 2) (R : Fin 8192) (j : Fin 1024) : res_main_v43 V0 (ix3 b R j) = ((A.memrow b R j - mean (A.memrow b R) : ℝ) : EReal) := by
  unfold res_main_v43
  clean_types
  pointwise
  rw [v37_at h, v41_at h, ← EReal.coe_sub]

theorem v71_at (h : Given V0 A) (b : Fin 2) (g : Fin 16) (R : Fin 8192) (e : Fin 64) (k : Fin 1024) (hk : k.val = g.val * 64 + e.val) :
    res_main_v71 V0 (ix4 b g R e) = A.val b R k := by
  obtain ⟨k, hk'⟩ := k
  subst hk
  unfold res_main_v71
  clean_types
  pointwise
  simp only [v37_at h, v41_at h, v43_at h, h.gm, h.bm, h.Wv, h.cv, ← EReal.coe_mul, ← EReal.coe_sub]
  rw [coe_sum, word_1024, div_real _ _ (by norm_num)]
  have hv : (∑ k, (A.memrow b R k - mean (A.memrow b R)) * (A.memrow b R k - mean (A.memrow b R))) / 1024 = vari (A.memrow b R) := by rw [vari]; norm_num
  rw [hv, word_eps, ← EReal.coe_add, rsqrt_real _ (vari_eps_pos _)]
  simp only [add_zero, ← EReal.coe_mul]
  rfl

end Cert.Refer

end
-- ==== Proof.RefHigh.lean ====
module

public import proofs.«01_k».proof.Proof.RefLow

@[expose] public section

/-! The reference's weights and sampling positions, entry by entry, on real numbers. -/

set_option maxRecDepth 16384

noncomputable section

namespace Cert.Refer

open Cert.ReferenceIdeal Cert.ReferenceIdeal.Value Cert.Spec Cert.Coe Idealize.ShloMosaic Idealize.SL.Sem

variable {V0 : Valuation τ sig (Elt Ideal)} {A : Args}

theorem word_8191 : Ideal.ofBits .f32 0x45FFF800#32 = ((8191 : ℝ) : EReal) := by
  simp [Ideal.ofBits, Ideal.ieee, -EReal.coe_mul]; norm_num
theorem word_three_halves : Ideal.ofBits .f32 0x3FC00000#32 = ((3 / 2 : ℝ) : EReal) := by
  simp [Ideal.ofBits, Ideal.ieee, -EReal.coe_mul]; norm_num
theorem top_at (i : S_.Idx) : id (constant S_ FTy.f32 0x45FFF800#32 : FVec Ideal S_ .f32) i = ((8191 : ℝ) : EReal) := word_8191

theorem col_eq (g : Fin 16) (p : Fin 4) (hl : g.val * 4 + p.val < 64) : (⟨g.val * 4 + p.val, hl⟩ : Fin 64) = col g p :=
  Fin.ext (by simp only [col]; omega)

theorem v89_at (h : Given V0 A) (b : Fin 2) (n : Fin 4096) (l : Fin 64) : res_main_v89 V0 (ix3 b n l) = ((A.wl b n l : ℝ) : EReal) := by
  unfold res_main_v89
  clean_types
  pointwise
  simp only [v65_at h, h.Ww, h.bw, ← EReal.coe_mul, coe_sum, ← EReal.coe_add]
  rfl

theorem v94_at (h : Given V0 A) (b : Fin 2) (n : Fin 4096) : ∃ M : ℝ, ∀ (g : Fin 16) (p : Fin 4), res_main_v94 V0 (ix4 b n g p) = ((A.wl b n (col g p) - M : ℝ) : EReal) := by
  obtain ⟨M, hM⟩ := fold_max (by norm_num) (A.wl b n)
  refine ⟨M, fun g p => ?_⟩
  unfold res_main_v94
  clean_types
  pointwise
  simp only [v89_at h, word_bot, hM, col_eq, ← EReal.coe_sub]

theorem v98_at (h : Given V0 A) (b : Fin 2) (n : Fin 4096) (g : Fin 16) : ∃ M : ℝ, ∀ (p : Fin 4), res_main_v98 V0 (ix4 b n g p) = ((A.wl b n (col g p) - M : ℝ) : EReal) := by
  obtain ⟨M, hM⟩ := v94_at h b n
  obtain ⟨M', hM'⟩ := fold_max (by norm_num) (fun p : Fin 4 => A.wl b n (col g p) - M)
  refine ⟨M + M', fun p => ?_⟩
  unfold res_main_v98
  clean_types
  pointwise
  simp only [hM, word_bot, hM', ← EReal.coe_sub]
  exact congrArg _ (by ring)

theorem v105_at (h : Given V0 A) (b : Fin 2) (n : Fin 4096) (g : Fin 16) : ∃ M : ℝ, ∀ (p : Fin 4), res_main_v105 V0 (ix4 b n g p) = ((Real.exp (A.wl b n (col g p) - M) : ℝ) : EReal) := by
  obtain ⟨M, hM⟩ := v98_at h b n g
  obtain ⟨M', hM'⟩ := fold_max (by norm_num) (fun p : Fin 4 => A.wl b n (col g p) - M)
  refine ⟨M + M', fun p => ?_⟩
  unfold res_main_v105
  clean_types
  pointwise
  simp only [hM, word_bot, hM', bot_le, max_eq_right, ← EReal.coe_sub, Ideal.exp_coe]
  exact congrArg _ (congrArg _ (by ring))

theorem v109_at (h : Given V0 A) (b : Fin 2) (n : Fin 4096) (g : Fin 16) (p : Fin 4) : res_main_v109 V0 (ix4 b n g p) = ((soft (A.wl b n) g p : ℝ) : EReal) := by
  obtain ⟨M, hM⟩ := v105_at h b n g
  unfold res_main_v109
  clean_types
  pointwise
  simp only [hM]
  rw [coe_sum, div_real _ _ (Finset.sum_pos (fun q _ => Real.exp_pos _) Finset.univ_nonempty).ne', soft_shift]

theorem call2_at (h : Given V0 A) (b : Fin 2) (n : Fin 4096) (g : Fin 16) (p : Fin 4) : res_main_call2_v6 V0 (ix4 b n g p) = ((soft (A.wl b n) g p : ℝ) : EReal) := by
  unfold res_main_call2_v6 res_main_call2_v2
  clean_types
  pointwise
  simp only [ne_eq, not_true_eq_false, if_false, word_top, v109_at h, EReal.coe_ne_top]

theorem v125_at (h : Given V0 A) (b : Fin 2) (n : Fin 4096) (g : Fin 16) (p : Fin 4) : res_main_v125 V0 (ix4 b n g p) = ((4088 + A.tpos b n (col g p) : ℝ) : EReal) := by
  unfold res_main_v125
  clean_types
  pointwise
  simp only [v65_at h, h.Wr, h.br, h.Wd, h.bd, mul_zero, Finset.sum_const_zero, add_zero, neg_zero, ← EReal.coe_mul, coe_sum, col_eq]
  have e0 : Ideal.exp (0 : EReal) = ((1 : ℝ) : EReal) := by rw [← EReal.coe_zero, Ideal.exp_coe, Real.exp_zero]
  have e1 : (1 : EReal) = ((1 : ℝ) : EReal) := rfl
  have e2 : FloatOps.sitofp (F := Ideal) FTy.f32 (BitVec.ofNat 32 p.val) = ((p.val : ℝ) : EReal) := by
    show (((BitVec.ofNat 32 p.val).toInt : ℝ) : EReal) = _
    have : (BitVec.ofNat 32 p.val).toInt = (p.val : ℤ) := by
      obtain ⟨p, hp⟩ := p
      interval_cases p <;> rfl
    rw [this]; norm_num
  have e3 := A.tanh_coe_th b n (col g p)
  unfold Args.dr Args.drr at e3
  rw [e3, e0, e2, e1, ← EReal.coe_add, div_real _ _ (by norm_num), word_8191, word_three_halves, word_4]
  simp only [← EReal.coe_mul, ← EReal.coe_sub, ← EReal.coe_add]
  have e4 : (col g p).val % 4 = p.val := by simp only [col]; omega
  unfold Args.tpos Args.posl
  rw [e4]
  exact congrArg _ (by ring)

theorem v127_at (h : Given V0 A) (b : Fin 2) (n : Fin 4096) (g : Fin 16) (p : Fin 4) : res_main_v127 V0 (ix4 b n g p) = ((4088 + A.tpos b n (col g p) : ℝ) : EReal) := by
  have ht := A.tpos_bounds b n (col g p)
  unfold res_main_v127 res_main_call3_v6 res_main_call3_v2
  clean_types
  pointwise
  simp only [ne_eq, not_true_eq_false, if_false, word_top, word_bot, v125_at h, EReal.coe_ne_top, EReal.coe_ne_bot, top_at, zero_at]
  rw [max_eq_right (by exact_mod_cast (by linarith : (0 : ℝ) ≤ 4088 + A.tpos b n (col g p))),
    min_eq_right (by exact_mod_cast (by linarith : 4088 + A.tpos b n (col g p) ≤ (8191 : ℝ)))]

theorem fptosi_nat (N : ℕ) (hN : N ≤ 8191) : FloatOps.fptosi (F := Ideal) (φ := .f32) 32 (((N : ℝ) : EReal)) = BitVec.ofNat 32 N := by
  show BitVec.ofInt 32 (max _ (min _ (if 0 ≤ (N : ℝ) then ⌊(N : ℝ)⌋ else ⌈(N : ℝ)⌉))) = _
  rw [if_pos (Nat.cast_nonneg N), Int.floor_natCast, min_eq_right (by norm_num; omega), max_eq_right (by norm_num)]
  exact BitVec.ofInt_natCast 32 N

theorem v129_at (h : Given V0 A) (b : Fin 2) (n : Fin 4096) (g : Fin 16) (p : Fin 4) : res_main_v129 V0 (ix4 b n g p) = BitVec.ofNat 32 (4088 + A.lf b n (col g p)) := by
  have ht := A.tpos_bounds b n (col g p)
  have hl := A.lf_bounds b n (col g p)
  unfold res_main_v129
  clean_types
  pointwise
  rw [v127_at h]
  have e : Ideal.liftRound Int.floor ((4088 + A.tpos b n (col g p) : ℝ) : EReal) = (((4088 + A.lf b n (col g p) : ℕ) : ℝ) : EReal) := by
    show (((⌊4088 + A.tpos b n (col g p)⌋ : ℤ) : ℝ) : EReal) = _
    have : ⌊4088 + A.tpos b n (col g p)⌋ = ((4088 + A.lf b n (col g p) : ℕ) : ℤ) := by
      rw [Int.floor_eq_iff]
      have h1 := Nat.floor_le (show 0 ≤ A.tpos b n (col g p) by linarith [ht.1])
      have h2 := Nat.lt_floor_add_one (A.tpos b n (col g p))
      unfold Args.lf
      push_cast
      constructor <;> linarith
    rw [this]; norm_cast
  rw [e]
  exact fptosi_nat _ (by omega)

theorem call5_at (h : Given V0 A) (b : Fin 2) (g : Fin 16) (m : Fin 16384) : res_main_call5_v4 V0 (ix4 b g m 0) = BitVec.ofNat 32 (4088 + A.lf b ⟨m.val / 4, by omega⟩ (col g ⟨m.val % 4, by omega⟩)) := by
  unfold res_main_call5_v4 res_main_v140
  clean_types
  pointwise
  rw [v129_at h]
  have hl := A.lf_bounds b ⟨m.val / 4, by omega⟩ (col g ⟨m.val % 4, by omega⟩)
  generalize A.lf b ⟨m.val / 4, by omega⟩ (col g ⟨m.val % 4, by omega⟩) = L at hl
  obtain ⟨h0, h1⟩ := hl
  interval_cases L <;> rfl

theorem call6_at (h : Given V0 A) (b : Fin 2) (g : Fin 16) (m : Fin 16384) : res_main_call6_v4 V0 (ix4 b g m 0) = BitVec.ofNat 32 (4088 + (A.lf b ⟨m.val / 4, by omega⟩ (col g ⟨m.val % 4, by omega⟩) + 1)) := by
  unfold res_main_call6_v4 res_main_v143
  clean_types
  pointwise
  rw [v129_at h]
  have hl := A.lf_bounds b ⟨m.val / 4, by omega⟩ (col g ⟨m.val % 4, by omega⟩)
  generalize A.lf b ⟨m.val / 4, by omega⟩ (col g ⟨m.val % 4, by omega⟩) = L at hl
  obtain ⟨h0, h1⟩ := hl
  interval_cases L <;> rfl

theorem v147_at (h : Given V0 A) (b : Fin 2) (g : Fin 16) (n : Fin 4096) (p : Fin 4) : res_main_v147 V0 (ix5 b g n p 0) = ((A.fr b n (col g p) : ℝ) : EReal) := by
  unfold res_main_v147
  clean_types
  pointwise
  rw [v127_at h, v129_at h]
  have hl := A.lf_bounds b n (col g p)
  have e : FloatOps.sitofp (F := Ideal) FTy.f32 (BitVec.ofNat 32 (4088 + A.lf b n (col g p))) = ((4088 + A.lf b n (col g p) : ℝ) : EReal) := by
    show (((BitVec.ofNat 32 (4088 + A.lf b n (col g p))).toInt : ℝ) : EReal) = _
    have : (BitVec.ofNat 32 (4088 + A.lf b n (col g p))).toInt = ((4088 + A.lf b n (col g p) : ℕ) : ℤ) := by
      generalize A.lf b n (col g p) = L at hl
      obtain ⟨h0, h1⟩ := hl
      interval_cases L <;> rfl
    rw [this]; norm_num
  rw [e, ← EReal.coe_sub]
  unfold Args.fr
  exact congrArg _ (by ring)

/-- Is the start word in range: the gather's guard is on. -/
theorem guard_on (N : ℕ) (hN : 4088 ≤ N) (hN' : N ≤ 4103) : IntOp.andi (IntOp.cmpi .sge (BitVec.ofNat 32 N) 0#32) (IntOp.cmpi .sle (BitVec.ofNat 32 N) 8191#32) = 1#1 := by
  interval_cases N <;> rfl

end Cert.Refer

end
-- ==== Proof.RefTake.lean ====
module

public import proofs.«01_k».proof.Proof.RefLow

@[expose] public section

/-! The reference's reading of its value rows. -/

set_option maxRecDepth 16384

noncomputable section

namespace Cert.Refer

open Cert.ReferenceIdeal Cert.ReferenceIdeal.Value Cert.Spec Cert.Coe Idealize.ShloMosaic Idealize.SL.Sem

variable {V0 : Valuation τ sig (Elt Ideal)} {A : Args}

/-- The gather of a value row: batch and head kept, the row named by the start word. -/
theorem gather_at (x : S2x16x8192x64.Idx → EReal) (idx : IVec S2x16x16384x1 32) (b : Fin 2) (g : Fin 16) (m : Fin 16384) (e : Fin 64)
    (N : ℕ) (hN : N < 8192) (hi : idx (ix4 b g m 0) = BitVec.ofNat 32 N) :
    Host.gather gather_S2x16x8192x64_S2x16x16384x1_S2x16x16384x64_3_2_01_01_2_3_11164 x idx (ix4 b g m e) = x (ix4 b g ⟨N, hN⟩ e) := by
  unfold Host.gather
  congr 1
  funext a
  refine Fin.ext ?_
  set D := gather_S2x16x8192x64_S2x16x16384x1_S2x16x16384x64_3_2_01_01_2_3_11164 with hD
  show D.start (ix4 b g m e) idx a + D.batchCoord (ix4 b g m e) a + D.offCoord (ix4 b g m e) a = _
  have hN' : (BitVec.ofNat 32 N).toInt.toNat = N := by
    rw [BitVec.toInt_ofNat', Int.bmod_eq_of_le (by omega) (by omega), Int.toNat_natCast]
  fin_cases a
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : D.siIdx (ix4 b g m e) ⟨List.idxOf (2 : Fin 4) D.startIndexMap, List.idxOf_lt_length_iff.2 (by decide)⟩ = ix4 b g m 0 := by
      funext b; refine Fin.ext ?_
      match b with
      | ⟨0, _⟩ => rfl
      | ⟨1, _⟩ => rfl
      | ⟨2, _⟩ => rfl
      | ⟨3, _⟩ => rfl
    show min (idx (D.siIdx (ix4 b g m e) ⟨List.idxOf (2 : Fin 4) D.startIndexMap, _⟩)).toInt.toNat (8192 - 1) = N
    rw [hsi, hi, hN']
    omega
  · rw [GatherDims.batchCoord_eq_zero _ _ _ (by decide)]
    unfold GatherDims.start GatherDims.offCoord
    rw [dif_neg (by decide), dif_pos (by decide)]
    simp only [Nat.zero_add, Nat.add_zero]
    rfl

end Cert.Refer

end
-- ==== Proof.RefMix.lean ====
module

public import proofs.«01_k».proof.Proof.RefLow

@[expose] public section

/-! The last steps of the reference: the weighted sum over the points, and the output weights. -/

set_option maxRecDepth 16384

noncomputable section

namespace Cert.Refer

open Cert.ReferenceIdeal Cert.ReferenceIdeal.Value Cert.ReferenceIdeal.Facts₀ Cert.Spec Cert.Coe Idealize.ShloMosaic Idealize.SL.Sem

/-- The weights, entries at minus infinity put to zero. -/
def weights (w : FVec Ideal S2x4096x16x4 .f32) : FVec Ideal S2x4096x16x4 .f32 :=
  select (cmpf .oeq w (broadcastInDim S2x4096x16x4 ![] bcast_S_S2x4096x16x4 (constant S_ .f32 0xFF800000#32))) (broadcastInDim S2x4096x16x4 ![] bcast_S_S2x4096x16x4 (id (constant S_ .f32 0x00000000#32))) w

theorem weights_at (w : FVec Ideal S2x4096x16x4 .f32) (b : Fin 2) (n : Fin 4096) (g : Fin 16) (p : Fin 4) :
    weights w (ix4 b n g p) = if w (ix4 b n g p) = ⊥ then 0 else w (ix4 b n g p) := by
  unfold weights
  pointwise
  simp only [word_bot, zero_at]

/-- The weighted samples. -/
def weighted (w : FVec Ideal S2x4096x16x4 .f32) (s : FVec Ideal S2x4096x16x4x64 .f32) : FVec Ideal S2x4096x16x4x64 .f32 :=
  mulf (broadcastInDim S2x4096x16x4x64 ![0, 1, 2, 3, 4] bcast_S2x4096x16x4x1_S2x4096x16x4x64_0_1_2_3_4 (broadcastInDim S2x4096x16x4x1 ![0, 1, 2, 3] bcast_S2x4096x16x4_S2x4096x16x4x1_0_1_2_3 w)) s

theorem weighted_at (w : FVec Ideal S2x4096x16x4 .f32) (s : FVec Ideal S2x4096x16x4x64 .f32) (b : Fin 2) (n : Fin 4096) (g : Fin 16) (p : Fin 4) (e : Fin 64) :
    weighted w s (ix5 b n g p e) = w (ix4 b n g p) * s (ix5 b n g p e) := by
  unfold weighted
  pointwise

theorem summed_at (v : FVec Ideal S2x4096x16x4x64 .f32) (b : Fin 2) (n : Fin 4096) (g : Fin 16) (e : Fin 64) :
    Host.reduceAdd v (constant S_ .f32 0x00000000#32) reducesTo_S2x4096x16x4x64_S2x4096x16x64_d3 h_S_ (ix4 b n g e) = ∑ p : Fin 4, v (ix5 b n g p e) := by
  pointwise

theorem cast_at (u : FVec Ideal S2x4096x16x64 .f32) (b : Fin 2) (n : Fin 4096) (k : Fin 1024) :
    shapeCast S2x4096x1024 u shapeCasts_S2x4096x16x64_S2x4096x1024 (ix3 b n k) = u (ix4 b n (head k) ⟨k.val % 64, by omega⟩) := by
  pointwise
  rfl

theorem outw_at (u : FVec Ideal S2x4096x1024 .f32) (Wo : FVec Ideal S1024x1024 .f32) (bo : FVec Ideal S1024 .f32) (b : Fin 2) (n : Fin 4096) (d : Fin 1024) :
    addf (Host.dotGeneral dot_S2x4096x1024_S1024x1024_S2x4096x1024_2_0_01_1_n_n none u Wo)
      (broadcastInDim S2x4096x1024 ![0, 1, 2] bcast_S1x1x1024_S2x4096x1024_0_1_2 (broadcastInDim S1x1x1024 ![2] bcast_S1024_S1x1x1024_2 bo)) (ix3 b n d)
      = ∑ k : Fin 1024, u (ix3 b n k) * Wo (ix2 k d) + bo (ix1 d) := by
  pointwise

/-- The result: the weighted samples, summed over the points, times the output weights. -/
def mixed (w : FVec Ideal S2x4096x16x4 .f32) (s : FVec Ideal S2x4096x16x4x64 .f32) (Wo : FVec Ideal S1024x1024 .f32) (bo : FVec Ideal S1024 .f32) : FVec Ideal S2x4096x1024 .f32 :=
  addf (Host.dotGeneral dot_S2x4096x1024_S1024x1024_S2x4096x1024_2_0_01_1_n_n none (shapeCast S2x4096x1024 (Host.reduceAdd (weighted (weights w) s) (constant S_ .f32 0x00000000#32) reducesTo_S2x4096x16x4x64_S2x4096x16x64_d3 h_S_) shapeCasts_S2x4096x16x64_S2x4096x1024) Wo)
    (broadcastInDim S2x4096x1024 ![0, 1, 2] bcast_S1x1x1024_S2x4096x1024_0_1_2 (broadcastInDim S1x1x1024 ![2] bcast_S1024_S1x1x1024_2 bo))

theorem mixed_at (w : FVec Ideal S2x4096x16x4 .f32) (s : FVec Ideal S2x4096x16x4x64 .f32) (Wo : FVec Ideal S1024x1024 .f32) (bo : FVec Ideal S1024 .f32)
    (b : Fin 2) (n : Fin 4096) (d : Fin 1024) :
    mixed w s Wo bo (ix3 b n d) = ∑ k : Fin 1024, (∑ p : Fin 4, (if w (ix4 b n (head k) p) = ⊥ then 0 else w (ix4 b n (head k) p)) * s (ix5 b n (head k) p ⟨k.val % 64, by omega⟩)) * Wo (ix2 k d) + bo (ix1 d) := by
  unfold mixed
  rw [outw_at]
  simp only [cast_at, summed_at, weighted_at, weights_at]

end Cert.Refer

end
-- ==== Proof.RefOut.lean ====
module

public import proofs.«01_k».proof.Proof.RefHigh
public import proofs.«01_k».proof.Proof.RefTake
public import proofs.«01_k».proof.Proof.RefMix

@[expose] public section

/-! The reference's result, entry by entry, on real numbers. -/

set_option maxRecDepth 16384

noncomputable section

namespace Cert.Refer

open Cert.ReferenceIdeal Cert.ReferenceIdeal.Value Cert.ReferenceIdeal.Facts₀ Cert.Spec Cert.Coe Idealize.ShloMosaic Idealize.SL.Sem

variable {V0 : Valuation τ sig (Elt Ideal)} {A : Args}

/-- The value rows named by a table of start words, where those are in range. -/
def taken (x : FVec Ideal S2x16x8192x64 .f32) (idx : IVec S2x16x16384x1 32) : FVec Ideal S2x16x16384x64 .f32 :=
  select (broadcastInDim S2x16x16384x64 ![0, 1, 2] bcast_S2x16x16384_S2x16x16384x64_0_1_2 (Host.reduce IntOp.andi (andi (cmpi .sge idx (broadcastInDim S2x16x16384x1 ![] bcast_S_S2x16x16384x1 (constantI S_ 32 0#32))) (cmpi .sle idx (broadcastInDim S2x16x16384x1 ![0, 1, 2, 3] bcast_S1x1x1x1_S2x16x16384x1_0_1_2_3 (broadcastInDim S1x1x1x1 ![3] bcast_S1_S1x1x1x1_3 (constantI S1 32 8191#32))))) (constantI S_ 1 1#1) reducesTo_S2x16x16384x1_S2x16x16384_d3 h_S_)) (Host.gather gather_S2x16x8192x64_S2x16x16384x1_S2x16x16384x64_3_2_01_01_2_3_11164 x idx) (broadcastInDim S2x16x16384x64 ![] bcast_S_S2x16x16384x64 (constant S_ .f32 0x7FC00000#32))

theorem taken_at (x : FVec Ideal S2x16x8192x64 .f32) (idx : IVec S2x16x16384x1 32) (b : Fin 2) (g : Fin 16) (m : Fin 16384) (e : Fin 64)
    (N : ℕ) (h0 : 4088 ≤ N) (h1 : N ≤ 4103) (hi : idx (ix4 b g m 0) = BitVec.ofNat 32 N) :
    taken x idx (ix4 b g m e) = x (ix4 b g ⟨N, by omega⟩ e) := by
  have hg := gather_at x idx b g m e N (by omega) hi
  rw [← hg]
  unfold taken
  generalize Host.gather gather_S2x16x8192x64_S2x16x16384x1_S2x16x16384x64_3_2_01_01_2_3_11164 x idx = y
  pointwise
  rw [show (Finset.univ : Finset (Fin 1)) = {0} from rfl, Finset.fold_singleton, hi, guard_on N h0 h1]
  rfl

/-- The samples: the two rows weighted by the fraction. -/
def samples (f : FVec Ideal S2x16x4096x4x1 .f32) (l r : FVec Ideal S2x16x16384x64 .f32) : FVec Ideal S2x4096x16x4x64 .f32 :=
  transpose S2x4096x16x4x64 [0, 2, 1, 3, 4] (addf (mulf (broadcastInDim S2x16x4096x4x64 ![0, 1, 2, 3, 4] bcast_S2x16x4096x4x1_S2x16x4096x4x64_0_1_2_3_4 (subf (broadcastInDim S2x16x4096x4x1 ![] bcast_S_S2x16x4096x4x1 (constant S_ .f32 0x3F800000#32)) f)) (shapeCast _ l shapeCasts_S2x16x16384x64_S2x16x4096x4x64)) (mulf (broadcastInDim S2x16x4096x4x64 ![0, 1, 2, 3, 4] bcast_S2x16x4096x4x1_S2x16x4096x4x64_0_1_2_3_4 f) (shapeCast _ r shapeCasts_S2x16x16384x64_S2x16x4096x4x64))) transposes_S2x16x4096x4x64_S2x4096x16x4x64_0_2_1_3_4

theorem samples_at (f : FVec Ideal S2x16x4096x4x1 .f32) (l r : FVec Ideal S2x16x16384x64 .f32) (b : Fin 2) (n : Fin 4096) (g : Fin 16) (p : Fin 4) (e : Fin 64)
    (m : Fin 16384) (hm : m.val = n.val * 4 + p.val) :
    samples f l r (ix5 b n g p e) = (1 - f (ix5 b g n p 0)) * l (ix4 b g m e) + f (ix5 b g n p 0) * r (ix4 b g m e) := by
  obtain ⟨m, hm'⟩ := m
  subst hm
  unfold samples
  pointwise

theorem val4_eq (V0 : Valuation τ sig (Elt Ideal)) : val4 V0 (Proc.devRef .tc main_v164)
    = mixed (res_main_call2_v6 V0) (samples (res_main_v147 V0) (taken (res_main_v71 V0) (res_main_call5_v4 V0)) (taken (res_main_v71 V0) (res_main_call6_v4 V0)))
        (V0 (Proc.devRef .tc main_arg17)) (V0 (Proc.devRef .tc main_arg18)) :=
  val4_main_v164 V0

theorem out_at (h : Given V0 A) (b : Fin 2) (n : Fin 4096) (d : Fin 1024) :
    val4 V0 (Proc.devRef .tc main_v164) (ix3 b n d) = A.out b n d := by
  rw [val4_eq]
  refine (mixed_at _ _ _ _ b n d).trans ?_
  have hs : ∀ (k : Fin 1024) (p : Fin 4), samples (res_main_v147 V0) (taken (res_main_v71 V0) (res_main_call5_v4 V0)) (taken (res_main_v71 V0) (res_main_call6_v4 V0))
      (ix5 b n (head k) p ⟨k.val % 64, by omega⟩) = A.sample b n (col (head k) p) k := fun k p => by
    have hl := A.lf_bounds b n (col (head k) p)
    have em : (⟨(n.val * 4 + p.val) / 4, by omega⟩ : Fin 4096) = n := Fin.ext (by show (n.val * 4 + p.val) / 4 = n.val; omega)
    have ep : (⟨(n.val * 4 + p.val) % 4, by omega⟩ : Fin 4) = p := Fin.ext (by show (n.val * 4 + p.val) % 4 = p.val; omega)
    have h5 := call5_at h b (head k) ⟨n.val * 4 + p.val, by omega⟩
    have h6 := call6_at h b (head k) ⟨n.val * 4 + p.val, by omega⟩
    simp only [em, ep] at h5 h6
    rw [samples_at _ _ _ b n (head k) p _ ⟨n.val * 4 + p.val, by omega⟩ rfl, taken_at _ _ _ _ _ _ _ (by omega) (by omega) h5,
      taken_at _ _ _ _ _ _ _ (by omega) (by omega) h6, v147_at h, v71_at h _ _ _ _ k (by simp only [head]; omega),
      v71_at h _ _ _ _ k (by simp only [head]; omega)]
    have e1 : (1 : EReal) = ((1 : ℝ) : EReal) := rfl
    rw [e1, ← EReal.coe_sub]
    have r0 : (⟨4088 + A.lf b n (col (head k) p), by omega⟩ : Fin 8192) = rowOf (A.lf b n (col (head k) p)) :=
      Fin.ext (by show 4088 + A.lf b n (col (head k) p) = (4088 + A.lf b n (col (head k) p)) % 8192; omega)
    have r1 : (⟨4088 + (A.lf b n (col (head k) p) + 1), by omega⟩ : Fin 8192) = rowOf (A.lf b n (col (head k) p) + 1) :=
      Fin.ext (by show 4088 + (A.lf b n (col (head k) p) + 1) = (4088 + (A.lf b n (col (head k) p) + 1)) % 8192; omega)
    rw [r0, r1]
    rfl
  simp only [hs, call2_at h, EReal.coe_ne_bot, if_false, h.Wo, h.bo, add_zero]
  rfl

end Cert.Refer

end
-- ==== Proof.SetUp.lean ====
module

public import proofs.«01_k».proof.Defs
public import proofs.«01_k».proof.Proof.Gen.Pre_as_set_up
public import proofs.«01_k».proof.Proof.HostValues
public import proofs.«01_k».proof.Proof.Second
public import proofs.«01_k».proof.Proof.RefOut

@[expose] public section

/-! From the precondition to the real numbers both programs compute on. -/

set_option maxRecDepth 16384

noncomputable section

namespace Cert.SetUp

open Cert.KernelIdeal Cert.KernelIdeal.Gen Cert.Spec Idealize.ShloMosaic Idealize.ShloMosaic.TcCoe Idealize.SL.Sem

theorem oeq_one {a b : EReal} (h : Ideal.cmp .oeq a b = 1#1) : a = b := by
  by_contra hn
  simp [Ideal.cmp, hn] at h

theorem finite {a : EReal} (h : Ideal.cmp .olt (max a (-a)) ⊤ = 1#1) : a = ((a.toReal : ℝ) : EReal) := by
  induction a using EReal.rec with
  | bot => simp [Ideal.cmp] at h
  | top => simp [Ideal.cmp] at h
  | coe r => rfl

theorem word_one : Ideal.ofBits .f32 0x3F800000#32 = 1 := by
  have e : Ideal.ofBits .f32 0x3F800000#32 = ((1 : ℝ) : EReal) := by
    simp [Ideal.ofBits, Ideal.ieee]
    rw [← EReal.coe_mul]
    norm_num
  exact e
theorem word_zero : Ideal.ofBits .f32 0x00000000#32 = 0 := by simp [Ideal.ofBits, Ideal.ieee]
theorem word_top : Ideal.ofBits .f32 0x7F800000#32 = ⊤ := by simp [Ideal.ofBits, Ideal.ieee]

theorem ones_of {s : Shape} (x : Vec Ideal s .f32) (h : (fun i => Ideal.cmp .oeq (x i) (Ideal.ofBits .f32 0x3F800000#32)) = fun _ => 1#1) (i : s.Idx) : x i = (1 : EReal) :=
  (oeq_one (congrFun h i)).trans word_one
theorem zeros_of {s : Shape} (x : Vec Ideal s .f32) (h : (fun i => Ideal.cmp .oeq (x i) (Ideal.ofBits .f32 0x00000000#32)) = fun _ => 1#1) (i : s.Idx) : x i = (0 : EReal) :=
  (oeq_one (congrFun h i)).trans word_zero
theorem reals_of {s : Shape} (x : Vec Ideal s .f32) (h : (fun i => Ideal.cmp .olt (max (x i) (-x i)) (Ideal.ofBits .f32 0x7F800000#32)) = fun _ => 1#1) (i : s.Idx) :
    x i = ((EReal.toReal (x i) : ℝ) : EReal) := by
  have h := congrFun h i
  rw [word_top] at h
  exact finite h

variable (m : (ℓ : Loc nD τ sig) → Buf (Elt Ideal) ℓ) (ρ : Dev nD → PrngReg) (c : Dev nD)

/-- The arguments in memory: as real numbers, but for the shift of the values' norm and the offsets' bias. -/
def args : Args where
  pr b n j := EReal.toReal (m ((c : Thread nD τ).loc main_arg1) (ix3 b n j)) + EReal.toReal (m ((c : Thread nD τ).loc main_arg2) (ix2 0 j))
  xr b n j := EReal.toReal (m ((c : Thread nD τ).loc main_arg0) (ix3 b n j)) + EReal.toReal (m ((c : Thread nD τ).loc main_arg2) (ix2 1 j))
  gm j := EReal.toReal (m ((c : Thread nD τ).loc main_arg5) (ix1 j))
  bm j := m ((c : Thread nD τ).loc main_arg6) (ix1 j)
  Wq k j := EReal.toReal (m ((c : Thread nD τ).loc main_arg7) (ix2 k j))
  Wv k j := EReal.toReal (m ((c : Thread nD τ).loc main_arg9) (ix2 k j))
  Wd k j := EReal.toReal (m ((c : Thread nD τ).loc main_arg13) (ix2 k j))
  bd j := m ((c : Thread nD τ).loc main_arg14) (ix1 j)
  Ww k j := EReal.toReal (m ((c : Thread nD τ).loc main_arg15) (ix2 k j))
  bw j := EReal.toReal (m ((c : Thread nD τ).loc main_arg16) (ix1 j))
  Wo k j := EReal.toReal (m ((c : Thread nD τ).loc main_arg17) (ix2 k j))

/-- What the precondition says of the arguments. -/
structure Ready : Prop where
  a3 : ∀ i, m ((c : Thread nD τ).loc main_arg3) i = (1 : EReal)
  a4 : ∀ i, m ((c : Thread nD τ).loc main_arg4) i = (0 : EReal)
  a8 : ∀ i, m ((c : Thread nD τ).loc main_arg8) i = (0 : EReal)
  a10 : ∀ i, m ((c : Thread nD τ).loc main_arg10) i = (0 : EReal)
  a11 : ∀ i, m ((c : Thread nD τ).loc main_arg11) i = (0 : EReal)
  a12 : ∀ i, m ((c : Thread nD τ).loc main_arg12) i = (0 : EReal)
  a18 : ∀ i, m ((c : Thread nD τ).loc main_arg18) i = (0 : EReal)
  a2 : ∀ i, m ((c : Thread nD τ).loc main_arg2) i = ((EReal.toReal (m ((c : Thread nD τ).loc main_arg2) i) : ℝ) : EReal)
  a5 : ∀ i, m ((c : Thread nD τ).loc main_arg5) i = ((EReal.toReal (m ((c : Thread nD τ).loc main_arg5) i) : ℝ) : EReal)
  a7 : ∀ i, m ((c : Thread nD τ).loc main_arg7) i = ((EReal.toReal (m ((c : Thread nD τ).loc main_arg7) i) : ℝ) : EReal)
  a9 : ∀ i, m ((c : Thread nD τ).loc main_arg9) i = ((EReal.toReal (m ((c : Thread nD τ).loc main_arg9) i) : ℝ) : EReal)
  a13 : ∀ i, m ((c : Thread nD τ).loc main_arg13) i = ((EReal.toReal (m ((c : Thread nD τ).loc main_arg13) i) : ℝ) : EReal)
  a15 : ∀ i, m ((c : Thread nD τ).loc main_arg15) i = ((EReal.toReal (m ((c : Thread nD τ).loc main_arg15) i) : ℝ) : EReal)
  a16 : ∀ i, m ((c : Thread nD τ).loc main_arg16) i = ((EReal.toReal (m ((c : Thread nD τ).loc main_arg16) i) : ℝ) : EReal)
  a17 : ∀ i, m ((c : Thread nD τ).loc main_arg17) i = ((EReal.toReal (m ((c : Thread nD τ).loc main_arg17) i) : ℝ) : EReal)

theorem ready [Cert.Pre_as_set_up.Facts] (h : Cert.Pre_KernelIdeal_as_set_up m) : Ready m c := by
  have h := h c
  obtain ⟨h3, h4, h8, h10, h11, h12, h18, h2, h5, h7, h9, h13, h15, h16, h17⟩ := h
  exact ⟨ones_of _ h3,
    zeros_of _ h4,
    zeros_of _ h8,
    zeros_of _ h10,
    zeros_of _ h11,
    zeros_of _ h12,
    zeros_of _ h18,
    reals_of _ h2,
    reals_of _ h5,
    reals_of _ h7,
    reals_of _ h9,
    reals_of _ h13,
    reals_of _ h15,
    reals_of _ h16,
    reals_of _ h17⟩

variable {m c} (h : Ready m c)
include h

theorem pr_at (b : Fin 2) (n : Fin 4096) (j : Fin 1024) : ((EReal.toReal (m ((c : Thread nD τ).loc main_arg1) (ix3 b n j)) : ℝ) : EReal) + m ((c : Thread nD τ).loc main_arg2) (ix2 0 j) = (((args m c).pr b n j : ℝ) : EReal) := by
  rw [h.a2 (ix2 0 j), ← EReal.coe_add]; rfl

theorem xr_at (b : Fin 2) (n : Fin 4096) (j : Fin 1024) : ((EReal.toReal (m ((c : Thread nD τ).loc main_arg0) (ix3 b n j)) : ℝ) : EReal) + m ((c : Thread nD τ).loc main_arg2) (ix2 1 j) = (((args m c).xr b n j : ℝ) : EReal) := by
  rw [h.a2 (ix2 1 j), ← EReal.coe_add]; rfl

theorem given1 : Cert.Arrays.Given (V1 m ρ) c (args m c) where
  pr b n j := by
    show ((EReal.toReal (W1 m ρ c (Proc.devRef .tc main_arg1) (ix3 b n j)) : ℝ) : EReal) + W1 m ρ c (Proc.devRef .tc main_arg2) (ix2 0 j) = _
    rw [W1_args m ρ c main_arg1 (by decide), W1_args m ρ c main_arg2 (by decide)]; exact pr_at h b n j
  xr b n j := by
    show ((EReal.toReal (W1 m ρ c (Proc.devRef .tc main_arg0) (ix3 b n j)) : ℝ) : EReal) + W1 m ρ c (Proc.devRef .tc main_arg2) (ix2 1 j) = _
    rw [W1_args m ρ c main_arg0 (by decide), W1_args m ρ c main_arg2 (by decide)]; exact xr_at h b n j
  gm j := (HostValues.v2_at m ρ c j).trans (h.a5 _)
  bm j := HostValues.v3_at m ρ c j
  Wv j k := (congrFun (W1_args m ρ c main_arg9 (by decide)) _).trans (h.a9 _)
  Wo j k := (congrFun (W1_args m ρ c main_arg17 (by decide)) _).trans (h.a17 _)
  E r i := HostValues.v16_at m ρ c r i
  Wq j k := (congrFun (W1_args m ρ c main_arg7 (by decide)) _).trans (h.a7 _)
  Wd j k := (congrFun (W1_args m ρ c main_arg13 (by decide)) _).trans (h.a13 _)
  Ww j k := (congrFun (W1_args m ρ c main_arg15 (by decide)) _).trans (h.a15 _)

omit h in
theorem kept (r : Ref sig .tc) (h1 : r ∉ hostOps1_W) (h0 : ∀ w : Fin cfg0.W, Pipeline.arrRef spec0 w = r → (cfg0.win w).isOut = false) :
    W3 m ρ c (Proc.devRef .tc r) = W1 m ρ c (Proc.devRef .tc r) :=
  (W3_of m ρ c r h1).trans (W2_of m ρ c r h0)

theorem given2 : Cert.Arrays.Given2 (V3 m ρ) c (args m c) where
  pr b n j := by
    show ((EReal.toReal (W3 m ρ c (Proc.devRef .tc main_arg1) (ix3 b n j)) : ℝ) : EReal) + W3 m ρ c (Proc.devRef .tc main_arg2) (ix2 0 j) = _
    rw [W3_args m ρ c main_arg1 (by decide), W3_args m ρ c main_arg2 (by decide)]; exact pr_at h b n j
  xr b n j := by
    show ((EReal.toReal (W3 m ρ c (Proc.devRef .tc main_arg0) (ix3 b n j)) : ℝ) : EReal) + W3 m ρ c (Proc.devRef .tc main_arg2) (ix2 1 j) = _
    rw [W3_args m ρ c main_arg0 (by decide), W3_args m ρ c main_arg2 (by decide)]; exact xr_at h b n j
  wd k l := (congrFun (((W3_of m ρ c main_v17_1 (by decide)).trans (W2_arr m ρ c 12)).trans Arrays.arr12) _).trans (Arrays.small (given1 ρ h) ⟨1, by decide⟩ k l).1
  ww k l := (congrFun (((W3_of m ρ c main_v17_2 (by decide)).trans (W2_arr m ρ c 13)).trans Arrays.arr13) _).trans (Arrays.small (given1 ρ h) ⟨1, by decide⟩ k l).2.1
  sd l := (congrFun (((W3_of m ρ c main_v17_3 (by decide)).trans (W2_arr m ρ c 14)).trans Arrays.arr14) _).trans (Arrays.small (given1 ρ h) ⟨1, by decide⟩ 0 l).2.2.1
  sw l := (congrFun (((W3_of m ρ c main_v17_3 (by decide)).trans (W2_arr m ρ c 14)).trans Arrays.arr14) _).trans (Arrays.small (given1 ρ h) ⟨1, by decide⟩ 0 l).2.2.2
  bd l := (HostValues.v20_lo m ρ c l).trans (congrFun (W2_args m ρ c main_arg14 (by decide)) _)
  bw l := ((HostValues.v20_hi m ρ c l).trans (congrFun (W2_args m ρ c main_arg16 (by decide)) _)).trans (h.a16 _)
  base l := (congrFun (kept ρ main_v0 (by decide) (by decide +kernel)) _).trans (HostValues.v0_at m ρ c l)
  group l' l := (congrFun (kept ρ main_cst_0 (by decide) (by decide +kernel)) _).trans (HostValues.cst0_at m ρ c l' l)
  rep l r := (congrFun (kept ρ main_cst_1 (by decide) (by decide +kernel)) _).trans (HostValues.cst1_at m ρ c l r)
  row r := (congrFun (kept ρ main_v1 (by decide) (by decide +kernel)) _).trans (HostValues.v1_at m ρ c r)
  tab := ((W3_of m ρ c main_v17_0 (by decide)).trans (W2_arr m ρ c 11)).trans (Arrays.arr11 (given1 ρ h))

/-- The kernel's result. -/
theorem kernel_out : (dat1 (F := Ideal) (V3 m ρ) c).arrAt 12 cfg1.N = Cert.Arrays.R (args m c) := Cert.Arrays.arr1_12 (given2 ρ h)

theorem given_ref (V0 : Valuation Cert.ReferenceIdeal.τ Cert.ReferenceIdeal.sig (Elt Ideal))
    (e0 : V0 (Proc.devRef .tc Cert.ReferenceIdeal.main_arg0) = m ((c : Thread nD τ).loc main_arg0))
    (e1 : V0 (Proc.devRef .tc Cert.ReferenceIdeal.main_arg1) = m ((c : Thread nD τ).loc main_arg1))
    (e2 : V0 (Proc.devRef .tc Cert.ReferenceIdeal.main_arg2) = m ((c : Thread nD τ).loc main_arg2))
    (e3 : V0 (Proc.devRef .tc Cert.ReferenceIdeal.main_arg3) = m ((c : Thread nD τ).loc main_arg3))
    (e4 : V0 (Proc.devRef .tc Cert.ReferenceIdeal.main_arg4) = m ((c : Thread nD τ).loc main_arg4))
    (e5 : V0 (Proc.devRef .tc Cert.ReferenceIdeal.main_arg5) = m ((c : Thread nD τ).loc main_arg5))
    (e6 : V0 (Proc.devRef .tc Cert.ReferenceIdeal.main_arg6) = m ((c : Thread nD τ).loc main_arg6))
    (e7 : V0 (Proc.devRef .tc Cert.ReferenceIdeal.main_arg7) = m ((c : Thread nD τ).loc main_arg7))
    (e8 : V0 (Proc.devRef .tc Cert.ReferenceIdeal.main_arg8) = m ((c : Thread nD τ).loc main_arg8))
    (e9 : V0 (Proc.devRef .tc Cert.ReferenceIdeal.main_arg9) = m ((c : Thread nD τ).loc main_arg9))
    (e10 : V0 (Proc.devRef .tc Cert.ReferenceIdeal.main_arg10) = m ((c : Thread nD τ).loc main_arg10))
    (e11 : V0 (Proc.devRef .tc Cert.ReferenceIdeal.main_arg11) = m ((c : Thread nD τ).loc main_arg11))
    (e12 : V0 (Proc.devRef .tc Cert.ReferenceIdeal.main_arg12) = m ((c : Thread nD τ).loc main_arg12))
    (e13 : V0 (Proc.devRef .tc Cert.ReferenceIdeal.main_arg13) = m ((c : Thread nD τ).loc main_arg13))
    (e14 : V0 (Proc.devRef .tc Cert.ReferenceIdeal.main_arg14) = m ((c : Thread nD τ).loc main_arg14))
    (e15 : V0 (Proc.devRef .tc Cert.ReferenceIdeal.main_arg15) = m ((c : Thread nD τ).loc main_arg15))
    (e16 : V0 (Proc.devRef .tc Cert.ReferenceIdeal.main_arg16) = m ((c : Thread nD τ).loc main_arg16))
    (e17 : V0 (Proc.devRef .tc Cert.ReferenceIdeal.main_arg17) = m ((c : Thread nD τ).loc main_arg17))
    (e18 : V0 (Proc.devRef .tc Cert.ReferenceIdeal.main_arg18) = m ((c : Thread nD τ).loc main_arg18)) :
    Cert.Refer.Given V0 (args m c) where
  xr b n j := by rw [e0, e2]; exact xr_at h b n j
  pr b n j := by rw [e1, e2]; exact pr_at h b n j
  gq k := (congrFun e3 _).trans (h.a3 _)
  bq k := (congrFun e4 _).trans (h.a4 _)
  gm k := (congrFun e5 _).trans (h.a5 _)
  bm k := congrFun e6 _
  Wq k j := (congrFun e7 _).trans (h.a7 _)
  cq k := (congrFun e8 _).trans (h.a8 _)
  Wv k j := (congrFun e9 _).trans (h.a9 _)
  cv k := (congrFun e10 _).trans (h.a10 _)
  Wr k j := (congrFun e11 _).trans (h.a11 _)
  br k := (congrFun e12 _).trans (h.a12 _)
  Wd k j := (congrFun e13 _).trans (h.a13 _)
  bd k := congrFun e14 _
  Ww k j := (congrFun e15 _).trans (h.a15 _)
  bw k := (congrFun e16 _).trans (h.a16 _)
  Wo k j := (congrFun e17 _).trans (h.a17 _)
  bo k := (congrFun e18 _).trans (h.a18 _)

end Cert.SetUp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_as_set_up
public import proofs.«01_k».proof.Proof.WholeRun
public import proofs.«01_k».proof.Proof.SameProgram
public import proofs.«01_k».proof.Proof.SetUp
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_as_set_up.Gen.facts, by
  refine ⟨?_, ?_, ?_, ?_, ?_, ?_, ?_⟩
  · exact kernel_frame
  · exact fun m ρ _ => Cert.KernelIdeal.Gen.quiet m ρ
  · exact fun m ρ _ => Cert.KernelIdeal.Gen.quiet m ρ
  · exact fun m ρ _ => (θ_run Cert.ReferenceIdeal.defs _ _).mono (fun r h => ⟨fun c => (h c).2, Idealize.ShloMosaic.sem_eq_zero_of_no_sems (by decide) r.2⟩) (Cert.ReferenceIdeal.Value.run (F := Ideal) m ρ)
  · exact fun m ρ _ => (θ_run Cert.ReferenceIdeal.defs _ _).mono (fun r h => ⟨fun c => (h c).2, Idealize.ShloMosaic.sem_eq_zero_of_no_sems (by decide) r.2⟩) (Cert.ReferenceIdeal.Value.run (F := Ideal) m ρ)
  · trivial
  · intro m g m' g' hpre he
    refine ⟨fun c => Cert.Arrays.R (Cert.SetUp.args m c), ?_, ?_⟩
    · refine (θ_run Cert.KernelIdeal.defs _ _).mono (fun r h c => ?_) (Cert.KernelIdeal.Gen.run m g)
      exact ⟨((h.1 c).1).trans (Cert.SetUp.kernel_out g (Cert.SetUp.ready m c hpre)), (h.1 c).2⟩
    · refine (θ_run Cert.ReferenceIdeal.defs _ _).mono (fun r h c => ?_) (Cert.ReferenceIdeal.Value.run (F := Ideal) m' g')
      refine ⟨((h c).1).trans ?_, (h c).2⟩
      obtain ⟨e0, e1, e2, e3, e4, e5, e6, e7, e8, e9, e10, e11, e12, e13, e14, e15, e16, e17, e18⟩ := he c
      have hg := Cert.SetUp.given_ref (Cert.SetUp.ready m c hpre) (StableHlo.launchContents m' c) e0 e1 e2 e3 e4 e5 e6 e7 e8 e9 e10 e11 e12 e13 e14 e15 e16 e17 e18
      refine (Cert.ReferenceIdeal.Value.val4_main_v164 (StableHlo.launchContents m' c)).symm.trans ?_
      funext i
      exact (congrArg _ (eq_ix3 i)).trans (Cert.Refer.out_at hg (i 0) (i 1) (i 2))⟩

end Cert.Proof

end
